-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_exponents [hPre_normal_exponents : Cert.Pre_normal_exponents.Facts] (m : (ℓ : Loc Cert.KernelIdeal.nD Cert.KernelIdeal.τ Cert.KernelIdeal.sig) → Buf (Elt Ideal) ℓ) : Prop :=
  ∀ c : Dev Cert.KernelIdeal.nD,
    (Cert.Pre_normal_exponents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_exponents [hPre_normal_exponents : Cert.Pre_normal_exponents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_exponents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_normal_exponents [hKernelIdeal : Cert.KernelIdeal.Facts] [hPre_normal_exponents : Cert.Pre_normal_exponents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_exponents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_normal_exponents [hReferenceIdeal : Cert.ReferenceIdeal.Facts] [hPre_normal_exponents : Cert.Pre_normal_exponents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_exponents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_normal_exponents [hKernelIdeal : Cert.KernelIdeal.Facts] [hReferenceIdeal : Cert.ReferenceIdeal.Facts] [hPre_normal_exponents : Cert.Pre_normal_exponents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_exponents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_normal_exponents : Cert.Pre_normal_exponents.Facts),
    quiescent_Kernel (hKernel := hKernel)
    ∧ quiescent_KernelIdeal (hKernelIdeal := hKernelIdeal)
    ∧ quiescent_KernelIdeal_pre_normal_exponents (hKernelIdeal := hKernelIdeal) (hPre_normal_exponents := hPre_normal_exponents)
    ∧ quiescent_ReferenceIdeal (hReferenceIdeal := hReferenceIdeal)
    ∧ quiescent_ReferenceIdeal_pre_normal_exponents (hReferenceIdeal := hReferenceIdeal) (hPre_normal_exponents := hPre_normal_exponents)
    ∧ preserves_Kernel_KernelIdeal
    ∧ algebraic_KernelIdeal_ReferenceIdeal_pre_normal_exponents (hKernelIdeal := hKernelIdeal) (hReferenceIdeal := hReferenceIdeal) (hPre_normal_exponents := hPre_normal_exponents)
-- ==== Pre_normal_exponents.lean ====
abbrev S256x1536 : Shape := ⟨2, ![256, 1536]⟩
abbrev S256x12 : Shape := ⟨2, ![256, 12]⟩
abbrev S256x512 : Shape := ⟨2, ![256, 512]⟩
abbrev S256x4 : Shape := ⟨2, ![256, 4]⟩
abbrev S256x64 : Shape := ⟨2, ![256, 64]⟩
abbrev S3 : Shape := ⟨1, ![3]⟩
abbrev S256x32 : Shape := ⟨2, ![256, 32]⟩
abbrev S18432x1536 : Shape := ⟨2, ![18432, 1536]⟩
abbrev S12288x512 : Shape := ⟨2, ![12288, 512]⟩
abbrev S18432x48 : Shape := ⟨2, ![18432, 48]⟩
abbrev S12288x16 : Shape := ⟨2, ![12288, 16]⟩
abbrev S_ : Shape := ⟨0, ![]⟩

class Facts : Prop where
  natLt_8_32 : 8 < 32
  bcast_S_S18432x48 : S_.BroadcastsInDim S18432x48 (![] : Fin 0 → Fin S18432x48.rank)
  reducesTo_S18432x48_S_d0_1 : S18432x48.ReducesTo [0, 1] S_
  h_S_ : 0 < S_.numel
  bcast_S_S12288x16 : S_.BroadcastsInDim S12288x16 (![] : Fin 0 → Fin S12288x16.rank)
  reducesTo_S12288x16_S_d0_1 : S12288x16.ReducesTo [0, 1] S_

variable [Facts]

def fn {F : FTy → Type} [FloatOps F] (main_arg0 : FVec F S256x1536 .fp8e4m3) (main_arg1 : FVec F S256x12 .f32) (main_arg2 : FVec F S256x512 .fp8e4m3) (main_arg3 : FVec F S256x4 .f32) (main_arg4 : FVec F S256x64 .bf16) (main_arg5 : IVec S3 32) (main_arg6 : FVec F S256x32 .f32) (main_arg7 : FVec F S256x32 .f32) (main_arg8 : FVec F S18432x1536 .bf16) (main_arg9 : FVec F S12288x512 .bf16) (main_arg10 : FVec F S18432x1536 .fp8e4m3) (main_arg11 : IVec S18432x48 8) (main_arg12 : FVec F S12288x512 .fp8e4m3) (main_arg13 : IVec S12288x16 8) (main_arg14 : FVec F S_ .f32) : IVec S_ 1 :=
  let main_v0 : IVec S18432x48 32 := (extui 32 · natLt_8_32) main_arg11
  let main_c : IVec S_ 32 := constantI S_ 32 1#32
  let main_v1 : IVec S18432x48 32 := broadcastInDim S18432x48 ![] bcast_S_S18432x48 main_c
  let main_v2 : IVec S18432x48 1 := cmpi .sge main_v0 main_v1
  let main_v3 : IVec S18432x48 32 := (extui 32 · natLt_8_32) main_arg11
  let main_c_0 : IVec S_ 32 := constantI S_ 32 254#32
  let main_v4 : IVec S18432x48 32 := broadcastInDim S18432x48 ![] bcast_S_S18432x48 main_c_0
  let main_v5 : IVec S18432x48 1 := cmpi .sle main_v3 main_v4
  let main_v6 : IVec S18432x48 1 := andi main_v2 main_v5
  let main_c_1 : IVec S_ 1 := constantI S_ 1 1#1
  let main_v7 : IVec S_ 1 := (fun x v => Host.reduce IntOp.andi x v reducesTo_S18432x48_S_d0_1 h_S_) main_v6 main_c_1
  let main_v8 : IVec S12288x16 32 := (extui 32 · natLt_8_32) main_arg13
  let main_c_2 : IVec S_ 32 := constantI S_ 32 1#32
  let main_v9 : IVec S12288x16 32 := broadcastInDim S12288x16 ![] bcast_S_S12288x16 main_c_2
  let main_v10 : IVec S12288x16 1 := cmpi .sge main_v8 main_v9
  let main_v11 : IVec S12288x16 32 := (extui 32 · natLt_8_32) main_arg13
  let main_c_3 : IVec S_ 32 := constantI S_ 32 254#32
  let main_v12 : IVec S12288x16 32 := broadcastInDim S12288x16 ![] bcast_S_S12288x16 main_c_3
  let main_v13 : IVec S12288x16 1 := cmpi .sle main_v11 main_v12
  let main_v14 : IVec S12288x16 1 := andi main_v10 main_v13
  let main_c_4 : IVec S_ 1 := constantI S_ 1 1#1
  let main_v15 : IVec S_ 1 := (fun x v => Host.reduce IntOp.andi x v reducesTo_S12288x16_S_d0_1 h_S_) main_v14 main_c_4
  let main_v16 : IVec S_ 1 := andi main_v7 main_v15
  main_v16
-- ==== Kernel.lean ====
abbrev S256x1536 : Shape := ⟨2, ![256, 1536]⟩
abbrev S256x12 : Shape := ⟨2, ![256, 12]⟩
abbrev S256x512 : Shape := ⟨2, ![256, 512]⟩
abbrev S256x4 : Shape := ⟨2, ![256, 4]⟩
abbrev S256x64 : Shape := ⟨2, ![256, 64]⟩
abbrev S3 : Shape := ⟨1, ![3]⟩
abbrev S256x32 : Shape := ⟨2, ![256, 32]⟩
abbrev S18432x1536 : Shape := ⟨2, ![18432, 1536]⟩
abbrev S12288x512 : Shape := ⟨2, ![12288, 512]⟩
abbrev S18432x48 : Shape := ⟨2, ![18432, 48]⟩
abbrev S12288x16 : Shape := ⟨2, ![12288, 16]⟩
abbrev S_ : Shape := ⟨0, ![]⟩
abbrev S1 : Shape := ⟨1, ![1]⟩
abbrev S12x256 : Shape := ⟨2, ![12, 256]⟩
abbrev S4x256 : Shape := ⟨2, ![4, 256]⟩
abbrev S64x256 : Shape := ⟨2, ![64, 256]⟩
abbrev S32x256 : Shape := ⟨2, ![32, 256]⟩
abbrev S48x18432 : Shape := ⟨2, ![48, 18432]⟩
abbrev S16x12288 : Shape := ⟨2, ![16, 12288]⟩
abbrev S1x128 : Shape := ⟨2, ![1, 128]⟩
abbrev S96x256 : Shape := ⟨2, ![96, 256]⟩
abbrev S384x1536 : Shape := ⟨2, ![384, 1536]⟩
abbrev S48x384 : Shape := ⟨2, ![48, 384]⟩
abbrev S16x256 : Shape := ⟨2, ![16, 256]⟩
abbrev S1536x256 : Shape := ⟨2, ![1536, 256]⟩
abbrev S512x256 : Shape := ⟨2, ![512, 256]⟩
abbrev S256x256 : Shape := ⟨2, ![256, 256]⟩
abbrev S48x1536 : Shape := ⟨2, ![48, 1536]⟩
abbrev S16x512 : Shape := ⟨2, ![16, 512]⟩
abbrev S8x128 : Shape := ⟨2, ![8, 128]⟩
abbrev S12x384x128 : Shape := ⟨3, ![12, 384, 128]⟩
abbrev S4x256x128 : Shape := ⟨3, ![4, 256, 128]⟩
abbrev S5x64x128 : Shape := ⟨3, ![5, 64, 128]⟩
abbrev S256x128 : Shape := ⟨2, ![256, 128]⟩
abbrev S128x256 : Shape := ⟨2, ![128, 256]⟩
abbrev S1x256 : Shape := ⟨2, ![1, 256]⟩
abbrev S64x128 : Shape := ⟨2, ![64, 128]⟩
abbrev S1x64x128 : Shape := ⟨3, ![1, 64, 128]⟩
abbrev S32x128 : Shape := ⟨2, ![32, 128]⟩
abbrev S128x64 : Shape := ⟨2, ![128, 64]⟩
abbrev S1x1 : Shape := ⟨2, ![1, 1]⟩
abbrev S48x128 : Shape := ⟨2, ![48, 128]⟩
abbrev S128x1536 : Shape := ⟨2, ![128, 1536]⟩
abbrev S128x128 : Shape := ⟨2, ![128, 128]⟩
abbrev S1x128x128 : Shape := ⟨3, ![1, 128, 128]⟩
abbrev S16x128 : Shape := ⟨2, ![16, 128]⟩
abbrev S128x512 : Shape := ⟨2, ![128, 512]⟩
abbrev S1x384x128 : Shape := ⟨3, ![1, 384, 128]⟩
abbrev S384x128 : Shape := ⟨2, ![384, 128]⟩
abbrev S384x256 : Shape := ⟨2, ![384, 256]⟩
abbrev S1x256x128 : Shape := ⟨3, ![1, 256, 128]⟩
abbrev S192x256 : Shape := ⟨2, ![192, 256]⟩
abbrev S256x192 : Shape := ⟨2, ![256, 192]⟩
abbrev S256 : Shape := ⟨1, ![256]⟩

abbrev nBuf : Space → Nat
  | .hbm => 28
  | .vmem => 36
  | .smem => 2
  | _ => 0

abbrev bufTy : (tb : Table) → Fin (tcTables nBuf tb) → BufTy
  | .hbm, ⟨0, _⟩ => ⟨S256x1536, .fp8e4m3⟩
  | .hbm, ⟨1, _⟩ => ⟨S256x12, .f32⟩
  | .hbm, ⟨2, _⟩ => ⟨S256x512, .fp8e4m3⟩
  | .hbm, ⟨3, _⟩ => ⟨S256x4, .f32⟩
  | .hbm, ⟨4, _⟩ => ⟨S256x64, .bf16⟩
  | .hbm, ⟨5, _⟩ => ⟨S3, .i32⟩
  | .hbm, ⟨6, _⟩ => ⟨S256x32, .f32⟩
  | .hbm, ⟨7, _⟩ => ⟨S256x32, .f32⟩
  | .hbm, ⟨8, _⟩ => ⟨S18432x1536, .bf16⟩
  | .hbm, ⟨9, _⟩ => ⟨S12288x512, .bf16⟩
  | .hbm, ⟨10, _⟩ => ⟨S18432x1536, .fp8e4m3⟩
  | .hbm, ⟨11, _⟩ => ⟨S18432x48, .i8⟩
  | .hbm, ⟨12, _⟩ => ⟨S12288x512, .fp8e4m3⟩
  | .hbm, ⟨13, _⟩ => ⟨S12288x16, .i8⟩
  | .hbm, ⟨14, _⟩ => ⟨S_, .f32⟩
  | .hbm, ⟨15, _⟩ => ⟨S1, .f32⟩
  | .hbm, ⟨16, _⟩ => ⟨S12x256, .f32⟩
  | .hbm, ⟨17, _⟩ => ⟨S4x256, .f32⟩
  | .hbm, ⟨18, _⟩ => ⟨S64x256, .bf16⟩
  | .hbm, ⟨19, _⟩ => ⟨S32x256, .f32⟩
  | .hbm, ⟨20, _⟩ => ⟨S32x256, .f32⟩
  | .hbm, ⟨21, _⟩ => ⟨S48x18432, .i8⟩
  | .hbm, ⟨22, _⟩ => ⟨S16x12288, .i8⟩
  | .hbm, ⟨23, _⟩ => ⟨S1x128, .f32⟩
  | .hbm, ⟨24, _⟩ => ⟨S1x128, .f32⟩
  | .hbm, ⟨25, _⟩ => ⟨S96x256, .f32⟩
  | .hbm, ⟨26, _⟩ => ⟨S18432x1536, .bf16⟩
  | .hbm, ⟨27, _⟩ => ⟨S12288x512, .bf16⟩
  | .local _ .vmem, ⟨0, _⟩ => ⟨S256x1536, .fp8e4m3⟩
  | .local _ .vmem, ⟨1, _⟩ => ⟨S12x256, .f32⟩
  | .local _ .vmem, ⟨2, _⟩ => ⟨S256x512, .fp8e4m3⟩
  | .local _ .vmem, ⟨3, _⟩ => ⟨S4x256, .f32⟩
  | .local _ .vmem, ⟨4, _⟩ => ⟨S64x256, .bf16⟩
  | .local _ .vmem, ⟨5, _⟩ => ⟨S32x256, .f32⟩
  | .local _ .vmem, ⟨6, _⟩ => ⟨S32x256, .f32⟩
  | .local _ .vmem, ⟨7, _⟩ => ⟨S384x1536, .bf16⟩
  | .local _ .vmem, ⟨8, _⟩ => ⟨S384x1536, .bf16⟩
  | .local _ .vmem, ⟨9, _⟩ => ⟨S256x512, .bf16⟩
  | .local _ .vmem, ⟨10, _⟩ => ⟨S256x512, .bf16⟩
  | .local _ .vmem, ⟨11, _⟩ => ⟨S384x1536, .fp8e4m3⟩
  | .local _ .vmem, ⟨12, _⟩ => ⟨S384x1536, .fp8e4m3⟩
  | .local _ .vmem, ⟨13, _⟩ => ⟨S48x384, .i8⟩
  | .local _ .vmem, ⟨14, _⟩ => ⟨S48x384, .i8⟩
  | .local _ .vmem, ⟨15, _⟩ => ⟨S256x512, .fp8e4m3⟩
  | .local _ .vmem, ⟨16, _⟩ => ⟨S256x512, .fp8e4m3⟩
  | .local _ .vmem, ⟨17, _⟩ => ⟨S16x256, .i8⟩
  | .local _ .vmem, ⟨18, _⟩ => ⟨S16x256, .i8⟩
  | .local _ .vmem, ⟨19, _⟩ => ⟨S1x128, .f32⟩
  | .local _ .vmem, ⟨20, _⟩ => ⟨S1x128, .f32⟩
  | .local _ .vmem, ⟨21, _⟩ => ⟨S96x256, .f32⟩
  | .local _ .vmem, ⟨22, _⟩ => ⟨S384x1536, .bf16⟩
  | .local _ .vmem, ⟨23, _⟩ => ⟨S384x1536, .bf16⟩
  | .local _ .vmem, ⟨24, _⟩ => ⟨S256x512, .bf16⟩
  | .local _ .vmem, ⟨25, _⟩ => ⟨S256x512, .bf16⟩
  | .local _ .vmem, ⟨26, _⟩ => ⟨S1536x256, .bf16⟩
  | .local _ .vmem, ⟨27, _⟩ => ⟨S512x256, .bf16⟩
  | .local _ .vmem, ⟨28, _⟩ => ⟨S256x64, .bf16⟩
  | .local _ .vmem, ⟨29, _⟩ => ⟨S256x256, .f32⟩
  | .local _ .vmem, ⟨30, _⟩ => ⟨S48x1536, .bf16⟩
  | .local _ .vmem, ⟨31, _⟩ => ⟨S16x512, .bf16⟩
  | .local _ .vmem, ⟨32, _⟩ => ⟨S8x128, .f32⟩
  | .local _ .vmem, ⟨33, _⟩ => ⟨S12x384x128, .bf16⟩
  | .local _ .vmem, ⟨34, _⟩ => ⟨S4x256x128, .bf16⟩
  | .local _ .vmem, ⟨35, _⟩ => ⟨S5x64x128, .f32⟩
  | .local _ .smem, ⟨0, _⟩ => ⟨S3, .i32⟩
  | .local _ .smem, ⟨1, _⟩ => ⟨S1, .f32⟩
  | _, _ => ⟨S256x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![49], ![false]⟩

def k0_off1 (i : grid0.Coords) (c0_i32_410 : BitVec 32) : Fin 2 → Nat :=
  let arg0 : BitVec 32 := BitVec.ofNat 32 (i 0).val
  let c47_i32 : BitVec 32 := 47#32
  let v706 : BitVec 32 := Scalar.minsi arg0 c47_i32
  let c2_i32_409 : BitVec 32 := 2#32
  let v707 : BitVec 32 := Scalar.muli v706 c2_i32_409
  let v708 : BitVec 32 := Scalar.addi v707 c0_i32_410
  let v709 : Index := Scalar.indexCast v708
  let c0_411 : Index := 0#32
  ![v709.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1536 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S48x384 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S96x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S384x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S256x1536 : Shape := ⟨2, ![256, 1536]⟩
abbrev S256x12 : Shape := ⟨2, ![256, 12]⟩
abbrev S256x512 : Shape := ⟨2, ![256, 512]⟩
abbrev S256x4 : Shape := ⟨2, ![256, 4]⟩
abbrev S256x64 : Shape := ⟨2, ![256, 64]⟩
abbrev S3 : Shape := ⟨1, ![3]⟩
abbrev S256x32 : Shape := ⟨2, ![256, 32]⟩
abbrev S18432x1536 : Shape := ⟨2, ![18432, 1536]⟩
abbrev S12288x512 : Shape := ⟨2, ![12288, 512]⟩
abbrev S18432x48 : Shape := ⟨2, ![18432, 48]⟩
abbrev S12288x16 : Shape := ⟨2, ![12288, 16]⟩
abbrev S_ : Shape := ⟨0, ![]⟩
abbrev S256x12x128 : Shape := ⟨3, ![256, 12, 128]⟩
abbrev S256x12x1 : Shape := ⟨3, ![256, 12, 1]⟩
abbrev S18432x48x32 : Shape := ⟨3, ![18432, 48, 32]⟩
abbrev S18432x48x1 : Shape := ⟨3, ![18432, 48, 1]⟩
abbrev S256x18432 : Shape := ⟨2, ![256, 18432]⟩
abbrev S256x96x192 : Shape := ⟨3, ![256, 96, 192]⟩
abbrev S256x4x128 : Shape := ⟨3, ![256, 4, 128]⟩
abbrev S256x4x1 : Shape := ⟨3, ![256, 4, 1]⟩
abbrev S12288x16x32 : Shape := ⟨3, ![12288, 16, 32]⟩
abbrev S12288x16x1 : Shape := ⟨3, ![12288, 16, 1]⟩
abbrev S256x12288 : Shape := ⟨2, ![256, 12288]⟩
abbrev S256x96x128 : Shape := ⟨3, ![256, 96, 128]⟩
abbrev S256x96x64 : Shape := ⟨3, ![256, 96, 64]⟩
abbrev S256x96x32 : Shape := ⟨3, ![256, 96, 32]⟩
abbrev S256x1x32 : Shape := ⟨3, ![256, 1, 32]⟩
abbrev S256x96x32x1 : Shape := ⟨4, ![256, 96, 32, 1]⟩
abbrev S256x96x32x2 : Shape := ⟨4, ![256, 96, 32, 2]⟩
abbrev S256 : Shape := ⟨1, ![256]⟩
abbrev S2 : Shape := ⟨1, ![2]⟩
abbrev S1x2 : Shape := ⟨2, ![1, 2]⟩
abbrev S256x1 : Shape := ⟨2, ![256, 1]⟩
abbrev S256x2 : Shape := ⟨2, ![256, 2]⟩
abbrev S96x256x256 : Shape := ⟨3, ![96, 256, 256]⟩
abbrev S256x256x96 : Shape := ⟨3, ![256, 256, 96]⟩
abbrev S1x256 : Shape := ⟨2, ![1, 256]⟩
abbrev S256x256 : Shape := ⟨2, ![256, 256]⟩
abbrev S1x256x256 : Shape := ⟨3, ![1, 256, 256]⟩
abbrev S96x256 : Shape := ⟨2, ![96, 256]⟩
abbrev S96 : Shape := ⟨1, ![96]⟩
abbrev S192 : Shape := ⟨1, ![192]⟩
abbrev S1x192 : Shape := ⟨2, ![1, 192]⟩
abbrev S96x1 : Shape := ⟨2, ![96, 1]⟩
abbrev S96x192 : Shape := ⟨2, ![96, 192]⟩
abbrev S18432x1 : Shape := ⟨2, ![18432, 1]⟩
abbrev S96x128 : Shape := ⟨2, ![96, 128]⟩
abbrev S12288 : Shape := ⟨1, ![12288]⟩
abbrev S12288x1 : Shape := ⟨2, ![12288, 1]⟩
abbrev S128 : Shape := ⟨1, ![128]⟩
abbrev S1x128 : Shape := ⟨2, ![1, 128]⟩

abbrev nBuf : Space → Nat
  | .hbm => 150
  | .vmem => 12
  | .smem => 0
  | _ => 0

abbrev hbmTy0_0 (i : Nat) : BufTy := match i % 128 with
  | 0 => ⟨S256x1536, .fp8e4m3⟩
  | 1 => ⟨S256x12, .f32⟩
  | 2 => ⟨S256x512, .fp8e4m3⟩
  | 3 => ⟨S256x4, .f32⟩
  | 4 => ⟨S256x64, .bf16⟩
  | 5 => ⟨S3, .i32⟩
  | 6 => ⟨S256x32, .f32⟩
  | 7 => ⟨S256x32, .f32⟩
  | 8 => ⟨S18432x1536, .bf16⟩
  | 9 => ⟨S12288x512, .bf16⟩
  | 10 => ⟨S18432x1536, .fp8e4m3⟩
  | 11 => ⟨S18432x48, .i8⟩
  | 12 => ⟨S12288x512, .fp8e4m3⟩
  | 13 => ⟨S12288x16, .i8⟩
  | 14 => ⟨S_, .f32⟩
  | 15 => ⟨S256x1536, .bf16⟩
  | 16 => ⟨S256x512, .bf16⟩
  | 17 => ⟨S18432x1536, .bf16⟩
  | 18 => ⟨S18432x48, .f32⟩
  | 19 => ⟨S12288x512, .bf16⟩
  | 20 => ⟨S12288x16, .f32⟩
  | 21 => ⟨S256x12x128, .bf16⟩
  | 22 => ⟨S256x12, .bf16⟩
  | 23 => ⟨S256x12x1, .bf16⟩
  | 24 => ⟨S256x12x128, .bf16⟩
  | 25 => ⟨S256x12x128, .bf16⟩
  | 26 => ⟨S256x1536, .bf16⟩
  | 27 => ⟨S18432x48x32, .bf16⟩
  | 28 => ⟨S18432x48, .bf16⟩
  | 29 => ⟨S18432x48x1, .bf16⟩
  | 30 => ⟨S18432x48x32, .bf16⟩
  | 31 => ⟨S18432x48x32, .bf16⟩
  | 32 => ⟨S18432x1536, .bf16⟩
  | 33 => ⟨S256x18432, .f32⟩
  | 34 => ⟨S256x96x192, .f32⟩
  | 35 => ⟨S256x4x128, .bf16⟩
  | 36 => ⟨S256x4, .bf16⟩
  | 37 => ⟨S256x4x1, .bf16⟩
  | 38 => ⟨S256x4x128, .bf16⟩
  | 39 => ⟨S256x4x128, .bf16⟩
  | 40 => ⟨S256x512, .bf16⟩
  | 41 => ⟨S12288x16x32, .bf16⟩
  | 42 => ⟨S12288x16, .bf16⟩
  | 43 => ⟨S12288x16x1, .bf16⟩
  | 44 => ⟨S12288x16x32, .bf16⟩
  | 45 => ⟨S12288x16x32, .bf16⟩
  | 46 => ⟨S12288x512, .bf16⟩
  | 47 => ⟨S256x12288, .f32⟩
  | 48 => ⟨S256x96x128, .f32⟩
  | 49 => ⟨S256x96x64, .f32⟩
  | 50 => ⟨S256x96x32, .f32⟩
  | 51 => ⟨S256x96x32, .f32⟩
  | 52 => ⟨S256x1x32, .f32⟩
  | 53 => ⟨S256x1x32, .f32⟩
  | 54 => ⟨S256x96x32, .f32⟩
  | 55 => ⟨S256x96x32, .f32⟩
  | 56 => ⟨S256x96x32, .f32⟩
  | 57 => ⟨S256x96x32, .f32⟩
  | 58 => ⟨S256x96x32, .f32⟩
  | 59 => ⟨S256x96x32, .f32⟩
  | 60 => ⟨S256x96x32, .f32⟩
  | 61 => ⟨S256x96x32, .f32⟩
  | 62 => ⟨S256x96x32, .f32⟩
  | 63 => ⟨S256x96x32, .f32⟩
  | 64 => ⟨S256x96x32x1, .f32⟩
  | 65 => ⟨S256x96x32x1, .f32⟩
  | 66 => ⟨S256x96x32x2, .f32⟩
  | 67 => ⟨S256x96x64, .f32⟩
  | 68 => ⟨S256x96x64, .bf16⟩
  | 69 => ⟨S256x96x128, .f32⟩
  | 70 => ⟨S256x96x128, .bf16⟩
  | 71 => ⟨S256x96x128, .bf16⟩
  | 72 => ⟨S256, .i32⟩
  | 73 => ⟨S2, .i32⟩
  | 74 => ⟨S1x2, .i32⟩
  | 75 => ⟨S256x1, .i32⟩
  | 76 => ⟨S256x2, .i32⟩
  | 77 => ⟨S256x2, .i32⟩
  | 78 => ⟨S256x2, .i1⟩
  | 79 => ⟨S256x2, .i32⟩
  | 80 => ⟨S_, .i32⟩
  | 81 => ⟨S256, .i32⟩
  | 82 => ⟨S96x256x256, .f32⟩
  | 83 => ⟨S256x256x96, .f32⟩
  | 84 => ⟨S96x256x256, .f32⟩
  | 85 => ⟨S96x256x256, .f32⟩
  | 86 => ⟨S_, .f32⟩
  | 87 => ⟨S96x256x256, .f32⟩
  | 88 => ⟨S96x256x256, .f32⟩
  | 89 => ⟨S1x256, .i32⟩
  | 90 => ⟨S256x1, .i32⟩
  | 91 => ⟨S256x256, .i32⟩
  | 92 => ⟨S256x256, .i32⟩
  | 93 => ⟨S256x256, .i1⟩
  | 94 => ⟨S1x256, .i32⟩
  | 95 => ⟨S256x1, .i32⟩
  | 96 => ⟨S256x256, .i32⟩
  | 97 => ⟨S256x256, .i32⟩
  | 98 => ⟨S256x256, .i1⟩
  | 99 => ⟨S256x256, .i1⟩
  | 100 => ⟨S1x256x256, .i1⟩
  | 101 => ⟨S_, .f32⟩
  | 102 => ⟨S_, .f32⟩
  | 103 => ⟨S96x256x256, .i1⟩
  | 104 => ⟨S96x256x256, .f32⟩
  | 105 => ⟨S96x256x256, .f32⟩
  | 106 => ⟨S_, .f32⟩
  | 107 => ⟨S96x256, .f32⟩
  | 108 => ⟨S_, .f32⟩
  | 109 => ⟨S96, .f32⟩
  | 110 => ⟨S_, .f32⟩
  | 111 => ⟨S96, .f32⟩
  | 112 => ⟨S96, .f32⟩
  | 113 => ⟨S96, .f32⟩
  | 114 => ⟨S96, .f32⟩
  | 115 => ⟨S_, .f32⟩
  | 116 => ⟨S96, .f32⟩
  | 117 => ⟨S96, .f32⟩
  | 118 => ⟨S96, .f32⟩
  | 119 => ⟨S192, .i32⟩
  | 120 => ⟨S_, .i32⟩
  | 121 => ⟨S192, .i32⟩
  | 122 => ⟨S192, .i1⟩
  | 123 => ⟨S1x192, .i1⟩
  | 124 => ⟨S96x1, .f32⟩
  | 125 => ⟨S96x1, .f32⟩
  | 126 => ⟨S96x192, .i1⟩
  | 127 => ⟨S96x192, .f32⟩
  | _ => ⟨S256x1536, .fp8e4m3⟩

abbrev hbmTy0_1 (i : Nat) : BufTy := match i % 128 with
  | 0 => ⟨S96x192, .f32⟩
  | 1 => ⟨S96x192, .f32⟩
  | 2 => ⟨S18432x1, .f32⟩
  | 3 => ⟨S96x128, .f32⟩
  | 4 => ⟨S12288, .f32⟩
  | 5 => ⟨S12288x1, .f32⟩
  | 6 => ⟨S18432x1536, .f32⟩
  | 7 => ⟨S18432x1536, .f32⟩
  | 8 => ⟨S18432x1536, .f32⟩
  | 9 => ⟨S18432x1536, .bf16⟩
  | 10 => ⟨S12288x512, .f32⟩
  | 11 => ⟨S12288x512, .f32⟩
  | 12 => ⟨S12288x512, .f32⟩
  | 13 => ⟨S12288x512, .bf16⟩
  | 14 => ⟨S_, .i32⟩
  | 15 => ⟨S_, .f32⟩
  | 16 => ⟨S128, .f32⟩
  | 17 => ⟨S1x128, .f32⟩
  | 18 => ⟨S_, .i32⟩
  | 19 => ⟨S_, .f32⟩
  | 20 => ⟨S128, .f32⟩
  | 21 => ⟨S1x128, .f32⟩
  | _ => ⟨S256x1536, .fp8e4m3⟩

abbrev hbmTy (i : Nat) : BufTy := match i / 128 with
  | 0 => hbmTy0_0 i
  | 1 => hbmTy0_1 i
  | _ => ⟨S256x1536, .fp8e4m3⟩

abbrev bufTy : (tb : Table) → Fin (tcTables nBuf tb) → BufTy
  | .hbm, ⟨i, _⟩ => hbmTy i
  | .local _ .vmem, ⟨0, _⟩ => ⟨S256x1536, .fp8e4m3⟩
  | .local _ .vmem, ⟨1, _⟩ => ⟨S256x512, .fp8e4m3⟩
  | .local _ .vmem, ⟨2, _⟩ => ⟨S18432x1536, .fp8e4m3⟩
  | .local _ .vmem, ⟨3, _⟩ => ⟨S18432x48, .i8⟩
  | .local _ .vmem, ⟨4, _⟩ => ⟨S12288x512, .fp8e4m3⟩
  | .local _ .vmem, ⟨5, _⟩ => ⟨S12288x16, .i8⟩
  | .local _ .vmem, ⟨6, _⟩ => ⟨S256x1536, .bf16⟩
  | .local _ .vmem, ⟨7, _⟩ => ⟨S256x512, .bf16⟩
  | .local _ .vmem, ⟨8, _⟩ => ⟨S18432x1536, .bf16⟩
  | .local _ .vmem, ⟨9, _⟩ => ⟨S18432x48, .f32⟩
  | .local _ .vmem, ⟨10, _⟩ => ⟨S12288x512, .bf16⟩
  | .local _ .vmem, ⟨11, _⟩ => ⟨S12288x16, .f32⟩
  | _, _ => ⟨S256x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_0 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_v79 : Ref sig .tc := ⟨.hbm, 105, rfl⟩
abbrev main_cst_1 : Ref sig .tc := ⟨.hbm, 106, rfl⟩
abbrev main_v80 : Ref sig .tc := ⟨.hbm, 107, rfl⟩
abbrev main_cst_2 : Ref sig .tc := ⟨.hbm, 108, rfl⟩
abbrev main_v81 : Ref sig .tc := ⟨.hbm, 109, rfl⟩
abbrev main_cst_3 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_4 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_5 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_6 : Ref sig .tc := ⟨.hbm, 142, rfl⟩
abbrev main_call2_v0 : Ref sig .tc := ⟨.hbm, 143, rfl⟩
abbrev main_v108 : Ref sig .tc := ⟨.hbm, 144, rfl⟩
abbrev main_v109 : Ref sig .tc := ⟨.hbm, 145, rfl⟩
abbrev main_c_7 : Ref sig .tc := ⟨.hbm, 146, rfl⟩
abbrev main_call3_v0 : Ref sig .tc := ⟨.hbm, 147, rfl⟩
abbrev main_v110 : Ref sig .tc := ⟨.hbm, 148, rfl⟩
abbrev main_v111 : Ref sig .tc := ⟨.hbm, 149, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x48 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x16 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18432x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18432x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KFrame.Runs.lean ====
/- What the two runs of the slice kernel share: its branch condition over the grid points, its staging and scratch memrefs. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, e0]
    word_cmp
   : ∀ t : Fin grid0.N, cond0_0 (grid0.coords t) ↔ t.val % 49 = 0)

/-! ## The kernel body on any staging memrefs: a subtype the run finds -/

/-- Each window's current staging memref at point `t`, spelled as the pipeline passes it (`bodyAt0`), and its wholeness. -/
abbrev ms0_0 (t : Fin cfg0.N) : Memref sig .tc .smem S3 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1536 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x1536 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x1536 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S48x384 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x256 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S96x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S384x1536 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x512 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S1536x256 .bf16 := Memref.whole cc0_scratch0
abbrev scM0_1 : Memref sig .tc .vmem S512x256 .bf16 := Memref.whole cc0_scratch1
abbrev scM0_2 : Memref sig .tc .vmem S256x64 .bf16 := Memref.whole cc0_scratch2
abbrev scM0_3 : Memref sig .tc .vmem S256x256 .f32 := Memref.whole cc0_scratch3
abbrev scM0_4 : Memref sig .tc .vmem S48x1536 .bf16 := Memref.whole cc0_scratch4
abbrev scM0_5 : Memref sig .tc .vmem S16x512 .bf16 := Memref.whole cc0_scratch5
abbrev scM0_6 : Memref sig .tc .vmem S8x128 .f32 := Memref.whole cc0_scratch6
abbrev scM0_7 : Memref sig .tc .vmem S12x384x128 .bf16 := Memref.whole cc0_scratch7
abbrev scM0_8 : Memref sig .tc .vmem S4x256x128 .bf16 := Memref.whole cc0_scratch8
abbrev scM0_9 : Memref sig .tc .vmem S5x64x128 .f32 := Memref.whole cc0_scratch9
/-- The scratch `arg21` the kernel carries between points, as a view: what it holds is stated through it. -/
abbrev VS0_0 : View sig .tc .vmem S1536x256 .bf16 := scM0_0.view
/-- The scratch `arg22` the kernel carries between points, as a view: what it holds is stated through it. -/
abbrev VS0_1 : View sig .tc .vmem S512x256 .bf16 := scM0_1.view
/-- The scratch `arg23` the kernel carries between points, as a view: what it holds is stated through it. -/
abbrev VS0_2 : View sig .tc .vmem S256x64 .bf16 := scM0_2.view
/-- The scratch `arg24` the kernel carries between points, as a view: what it holds is stated through it. -/
abbrev VS0_3 : View sig .tc .vmem S256x256 .f32 := scM0_3.view
/-- The scratch `arg25` the kernel carries between points, as a view: what it holds is stated through it. -/
abbrev VS0_4 : View sig .tc .vmem S48x1536 .bf16 := scM0_4.view
/-- The scratch `arg26` the kernel carries between points, as a view: what it holds is stated through it. -/
abbrev VS0_5 : View sig .tc .vmem S16x512 .bf16 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.KFrame

end
-- ==== Proof.KFrame.RunA.lean ====
/- The whole-body run of the kernel at the first point. -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2240000 in set_option sl_exec.squeezeSlice true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (15, 16, 17, 18, 19) at anything, handed back at some contents nothing names. -/
noncomputable def kernelRun0_A (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) :
    Σ' (LS0 : List (View.Piece (Elt F) S1536x256 .bf16)), Σ' (LS1 : List (View.Piece (Elt F) S512x256 .bf16)), Σ' (LS2 : List (View.Piece (Elt F) S256x64 .bf16)), Σ' (LS3 : List (View.Piece (Elt F) S256x256 .f32)), Σ' (LS4 : List (View.Piece (Elt F) S48x1536 .bf16)), Σ' (LS5 : List (View.Piece (Elt F) S16x512 .bf16)), Σ' (LT7 : List (View.Piece (Elt F) S12x384x128 .bf16)), { LT9 : List (View.Piece (Elt F) S5x64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3) ∗ (∃ f, arg25.view.loc (c : Thread nD τ) ↦[arg25.view.set]{fullShare} arg25.view.writes (Elt F) f LS4) ∗ (∃ f, arg26.view.loc (c : Thread nD τ) ↦[arg26.view.set]{fullShare} arg26.view.writes (Elt F) f LS5) ∗ (∃ d, owns (c : Thread nD τ) arg27 fullShare d) ∗ (∃ f, arg28.view.loc (c : Thread nD τ) ↦[arg28.view.set]{fullShare} arg28.view.writes (Elt F) f LT7) ∗ (∃ d, owns (c : Thread nD τ) arg29 fullShare d) ∗ (∃ f, arg30.view.loc (c : Thread nD τ) ↦[arg30.view.set]{fullShare} arg30.view.writes (Elt F) f LT9)) -∗ K ⟨⟩))
          ⊢ wp frame (wpE (defs₀ (F := F)) Variants.none c none) E (cc0_qk_clip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, fun E K => ?run⟩
  case run =>
    simp only [cc0_qk_clip_eq_skeleton]; unfold cc0_qk_clip_skel
    simp only [k0_part10_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]
    · iexists _, _; isplitr; swap; · iexact HS6
      ipureintro; rfl
    isplitl [HS7]; · iexists _; iexact HS7
    isplitl [HS8]
    · iexists _, _; isplitr; swap; · iexact HS8
      ipureintro; rfl
    iexists _; iexact HS9

end Cert.Kernel.KFrame

end
-- ==== Proof.KFrame.RunB.lean ====
/- The whole-body run of the kernel at every later point. -/
module

public import proofs.«01_k».proof.Proof.KFrame.RunA

@[expose] public section

-- membership in a rectangle of production extents (`View.cover_of_tiled`): the elaborator's structural look
-- recurses once per coordinate of the long axes
set_option maxRecDepth 16384

noncomputable section

namespace Cert.Kernel.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1644000 in set_option sl_exec.squeezeSlice true in
/-- What the body's stores leave in each output's staging memref, as pieces (last first) IN CASE B (`scf.if` 0 not taken: points 1, 2, … 48: 48 of 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (15, 16, 17, 18, 19) at anything, handed back at some contents nothing names. -/
noncomputable def kernelRun0_B (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) :
    Σ' (LS0 : List (View.Piece (Elt F) S1536x256 .bf16)), Σ' (LS1 : List (View.Piece (Elt F) S512x256 .bf16)), Σ' (LS2 : List (View.Piece (Elt F) S256x64 .bf16)), Σ' (LS3 : List (View.Piece (Elt F) S256x256 .f32)), Σ' (LS4 : List (View.Piece (Elt F) S48x1536 .bf16)), Σ' (LS5 : List (View.Piece (Elt F) S16x512 .bf16)), Σ' (LT7 : List (View.Piece (Elt F) S12x384x128 .bf16)), { LT9 : List (View.Piece (Elt F) S5x64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_qk_clip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨[], [], [], [], [], [], [], [], fun E K => ?run⟩
  case run =>
    simp only [cc0_qk_clip_eq_skeleton]; unfold cc0_qk_clip_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg21.eq_unread hfs0; obtain rfl := harg22.eq_unread hfs1; obtain rfl := harg23.eq_unread hfs2; obtain rfl := harg24.eq_unread hfs3; obtain rfl := harg25.eq_unread hfs4; obtain rfl := harg26.eq_unread hfs5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _; isplitr; · ipureintro; exact harg21.read_unread _
      iexact HS0
    isplitl [HS1]
    · iexists _; isplitr; · ipureintro; exact harg22.read_unread _
      iexact HS1
    isplitl [HS2]
    · iexists _; isplitr; · ipureintro; exact harg23.read_unread _
      iexact HS2
    isplitl [HS3]
    · iexists _; isplitr; · ipureintro; exact harg24.read_unread _
      iexact HS3
    isplitl [HS4]
    · iexists _; isplitr; · ipureintro; exact harg25.read_unread _
      iexact HS4
    isplitl [HS5]
    · iexists _; isplitr; · ipureintro; exact harg26.read_unread _
      iexact HS5
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.KFrame

end
-- ==== Proof.KFrame.Frame.lean ====
/- The frame of the kernel over the bits: the proof data and the body obligation, from the two runs; the outputs are forgotten. -/
module

public import proofs.«01_k».proof.Proof.KFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from a run over proof data that may forget an output. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 0 rfl).trans ((hA c 0).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 9 rfl).trans ((hA c 9).trans (V_main_arg8 m c)),
      (Pipeline.RDat.FramePost.arr_in h c 10 rfl).trans ((hA c 10).trans (V_main_arg9 m c)),
      (Pipeline.RDat.FramePost.arr_in h c 11 rfl).trans ((hA c 11).trans (V_main_arg10 m c)),
      ((h c).2 main_arg11 (Pipeline.mem_restRefs_of main_arg11 (by decide) (by decide))).trans (V_main_arg11 m c),
      (Pipeline.RDat.FramePost.arr_in h c 13 rfl).trans ((hA c 13).trans (V_main_arg12 m c)),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-- Case A's pieces for scratch `arg21`, which the kernel carries between points, cover it: 12 pieces of `S128x256` tiling it (Lib/Ring.lean `Piece.tiledL`). -/
theorem scover0_A_0 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).1 S128x256.size (by sl_kernel_rfl) y

/-- What case A leaves in scratch `arg21`: its pieces read back over junk. -/
def sout0_A_0 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) : Vec F S1536x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).1)

/-- Case A's pieces for scratch `arg22`, which the kernel carries between points, cover it: 4 pieces of `S128x256` tiling it (Lib/Ring.lean `Piece.tiledL`). -/
theorem scover0_A_1 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.1 S128x256.size (by sl_kernel_rfl) y

/-- What case A leaves in scratch `arg22`: its pieces read back over junk. -/
def sout0_A_1 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) : Vec F S512x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.1)

/-- Case A's pieces for scratch `arg23`, which the kernel carries between points, cover it: 2 pieces of `S128x64` tiling it (Lib/Ring.lean `Piece.tiledL`). -/
theorem scover0_A_2 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (y : S256x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.1 S128x64.size (by sl_kernel_rfl) y

/-- What case A leaves in scratch `arg23`: its pieces read back over junk. -/
def sout0_A_2 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) : Vec F S256x64 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.1)

/-- Case A's pieces for scratch `arg24`, which the kernel carries between points, cover it: 1 piece of `S256x256` tiling it (Lib/Ring.lean `Piece.tiledL`). -/
theorem scover0_A_3 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.1 S256x256.size (by sl_kernel_rfl) y

/-- What case A leaves in scratch `arg24`: its pieces read back over junk. -/
def sout0_A_3 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) : Vec F S256x256 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.1)

/-- Case A's pieces for scratch `arg25`, which the kernel carries between points, cover it: 1 piece of `S48x1536` tiling it (Lib/Ring.lean `Piece.tiledL`). -/
theorem scover0_A_4 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (y : S48x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.2.1 S48x1536.size (by sl_kernel_rfl) y

/-- What case A leaves in scratch `arg25`: its pieces read back over junk. -/
def sout0_A_4 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) : Vec F S48x1536 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.2.1)

/-- Case A's pieces for scratch `arg26`, which the kernel carries between points, cover it: 1 piece of `S16x512` tiling it (Lib/Ring.lean `Piece.tiledL`). -/
theorem scover0_A_5 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (y : S16x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.2.2.1 S16x512.size (by sl_kernel_rfl) y

/-- What case A leaves in scratch `arg26`: its pieces read back over junk. -/
def sout0_A_5 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) : Vec F S16x512 .bf16 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14).2.2.2.2.2.1)

/-- Case B stores nothing into scratch `arg21`: it holds what the point before left. -/
def sout0_B_0 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) : Vec F S1536x256 .bf16 := xs0

/-- Case B stores nothing into scratch `arg22`: it holds what the point before left. -/
def sout0_B_1 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) : Vec F S512x256 .bf16 := xs1

/-- Case B stores nothing into scratch `arg23`: it holds what the point before left. -/
def sout0_B_2 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) : Vec F S256x64 .bf16 := xs2

/-- Case B stores nothing into scratch `arg24`: it holds what the point before left. -/
def sout0_B_3 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) : Vec F S256x256 .f32 := xs3

/-- Case B stores nothing into scratch `arg25`: it holds what the point before left. -/
def sout0_B_4 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) : Vec F S48x1536 .bf16 := xs4

/-- Case B stores nothing into scratch `arg26`: it holds what the point before left. -/
def sout0_B_5 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : ¬cond0_0 i)
    (x0 : Vec F S3 .i32) (x1 : Vec F S1 .f32) (x2 : Vec F S256x1536 .fp8e4m3) (x3 : Vec F S12x256 .f32) (x4 : Vec F S256x512 .fp8e4m3) (x5 : Vec F S4x256 .f32) (x6 : Vec F S64x256 .bf16) (x7 : Vec F S32x256 .f32) (x8 : Vec F S32x256 .f32) (x9 : Vec F S384x1536 .bf16) (x10 : Vec F S256x512 .bf16) (x11 : Vec F S384x1536 .fp8e4m3) (x12 : Vec F S48x384 .i8) (x13 : Vec F S256x512 .fp8e4m3) (x14 : Vec F S16x256 .i8) (xs0 : Vec F S1536x256 .bf16) (xs1 : Vec F S512x256 .bf16) (xs2 : Vec F S256x64 .bf16) (xs3 : Vec F S256x256 .f32) (xs4 : Vec F S48x1536 .bf16) (xs5 : Vec F S16x512 .bf16) : Vec F S16x512 .bf16 := xs5

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x256 .bf16 × Vec F S512x256 .bf16 × Vec F S256x64 .bf16 × Vec F S256x256 .f32 × Vec F S48x1536 .bf16 × Vec F S16x512 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 49 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 49 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 49 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2.1) ∗ owns (c : Thread nD τ) scM0_5 fullShare ((outsAt0 m c n hn).2.2.2.2.2) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2.1) ∗ owns (c : Thread nD τ) scM0_5 fullShare ((outsAt0 m c n hn).2.2.2.2.2) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2.1) ∗ owns (c : Thread nD τ) scM0_5 fullShare ((outsAt0 m c (n - 1) (by omega)).2.2.2.2.2) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The pipeline's proof data -/

/-- The output windows this certificate FORGETS (15, 16, 17, 18, 19): nothing reads what the kernel leaves in them, so nothing
    of it is named (Lib/Pipeline/Dat.lean `Dat.toRForget`). -/
def forgets0 : Fin 20 → Bool := fun w => w.val == 15 || w.val == 16 || w.val == 17 || w.val == 18 || w.val == 19

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 22400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 49 := lt_of_lt_of_eq t.isLt (show cfg0.N = 49 from N_0)
  by_cases h0 : t.val % 49 = 0
  · by_cases hz : t.val = 0
    · rw [PhiS_castSucc m c t, PhiS_zero m c _ _ hz, PhiA0_eq]
      rw [outsAt0_A m c t h0]
      unfold sout0_A_0 sout0_A_1 sout0_A_2 sout0_A_3 sout0_A_4 sout0_A_5; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, H9, H10, H11, H12, H13, H14, H15, H16, H17, H18, H19, ⟨%es0, HS0⟩, ⟨%es1, HS1⟩, ⟨%es2, HS2⟩, ⟨%es3, HS3⟩, ⟨%es4, HS4⟩, ⟨%es5, HS5⟩, HS6, ⟨%fT7, HS7⟩, HS8, ⟨%fT9, HS9⟩⟩
      isplitl [HS0 HS1 HS2 HS3 HS4 HS5 HS6 HS7 HS8 HS9 Hg]
      · isplitl [HS0 HS1 HS2 HS3 HS4 HS5 HS6 HS7 HS8 HS9]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS6]
          · iexact HS6
          isplitl [HS7]
          · iexists _; unfold owns; iexists _; isplitr
            swap; · iexact HS7
            ipureintro; rfl
          isplitl [HS8]
          · iexact HS8
          iexists _; unfold owns; iexists _; isplitr
          swap; · iexact HS9
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · exfalso; have hN : t.val < 49 := lt_of_lt_of_eq t.isLt (show cfg0.N = 49 from N_0); omega
  · by_cases hz : t.val = 0
    · exfalso; have hN : t.val < 49 := lt_of_lt_of_eq t.isLt (show cfg0.N = 49 from N_0); omega
    · rw [PhiS_castSucc m c t, PhiS_pos m c _ _ hz]
      rw [outsAt0_B m c t h0]
      unfold sout0_B_0 sout0_B_1 sout0_B_2 sout0_B_3 sout0_B_4 sout0_B_5; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, H9, H10, H11, H12, H13, H14, H15, H16, H17, H18, H19, HS0, HS1, HS2, HS3, HS4, HS5, HS6, HS7, HS8, HS9⟩
      isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexact HS6
    isplitl [HS7]
    · iexact HS7
    isplitl [HS8]
    · iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 15, 16, 17, 18, 19) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel.KFrame

end
-- ==== Proof.Stages.lean ====
/- The body of the kernel cut into four consecutive stages: the first point's initialisation, the rescaling of the
   previous block's weights, the dequantisation of the current block's weights, the scores of the block's two heads. -/
module

public import proofs.«01_k».proof.Proof.Gen.KernelIdeal.Skeleton
public import proofs.«01_k».proof.Proof.Gen.KernelIdeal.Frame

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block guarded by the first point. -/
def progI (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v1174 : FVec F S1x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30
    let v1175 : Vec F S1x128 .f32 ← Prog.lift (.load arg17 (Rect.unit (s := S1x128) ![0, 0] S1x128.size inb_S1x128_S1x128_0_0).toLoadRect (View.loadsAt_vmem h_S1x128))
    Prog.lift (.store arg17 (Rect.unit (s := S1x128) ![0, 0] S1x128.size inb_S1x128_S1x128_0_0) v1174 Finset.univ (View.stores_vmem_bits_univ h_S1x128 rfl) (.inl rfl))
    pure ⟨⟩
  else do
    pure ⟨⟩

/-- The rest of the part the guarded block opens. -/
def p10rest (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) :
    Prog (TpuEff nD τ sig (Elt F) Λ₀ .tc) (Σ' (arg0 : BitVec 32) (v4 : FVec F S1x1 .f32) (v6 : FVec F S1x1 .f32) (v8 : FVec F S1x1 .f32) (v10 : FVec F S1x1 .f32) (v34 : FVec F S128x256 .f32), FVec F S64x256 .f32) := do
  let arg0 : BitVec 32 := BitVec.ofNat 32 (i 0).val
  let v3 : Vec F S1x128 .f32 ← Prog.lift (.load arg27 (Rect.unit (s := S8x128) ![0, 0] S1x128.size inb_S8x128_S1x128_0_0).toLoadRect (View.loadsAt_vmem h_S1x128))
  let v5 : Vec F S1x128 .f32 ← Prog.lift (.load arg27 (Rect.unit (s := S8x128) ![1, 0] S1x128.size inb_S8x128_S1x128_1_0).toLoadRect (View.loadsAt_vmem h_S1x128))
  let v7 : Vec F S1x128 .f32 ← Prog.lift (.load arg27 (Rect.unit (s := S8x128) ![2, 0] S1x128.size inb_S8x128_S1x128_2_0).toLoadRect (View.loadsAt_vmem h_S1x128))
  let v9 : Vec F S1x128 .f32 ← Prog.lift (.load arg27 (Rect.unit (s := S8x128) ![3, 0] S1x128.size inb_S8x128_S1x128_3_0).toLoadRect (View.loadsAt_vmem h_S1x128))
  let v11 : Vec F S128x256 .bf16 ← Prog.lift (.load arg10 (Rect.unit (s := S384x1536) ![0, 0] S128x256.size inb_S384x1536_S128x256_0_0).toLoadRect (View.loadsAt_vmem h_S128x256))
  let v21 : Vec F S128x256 .bf16 ← Prog.lift (.load arg19 (Rect.unit (s := S384x1536) ![0, 0] S128x256.size inb_S384x1536_S128x256_0_0).toLoadRect (View.loadsAt_vmem h_S128x256))
  Prog.lift (.store arg19 (Rect.unit (s := S384x1536) ![0, 0] S128x256.size inb_S384x1536_S128x256_0_0) (k0_pay43 v3 v11) Finset.univ (View.stores_vmem h_S128x256 (harg19.storeExact_slice rfl _ packedbf16_S384x1536_S128x256_0_0) (fun _ => rfl)) (.inl rfl))
  let v22 : Vec F S128x256 .bf16 ← Prog.lift (.load arg10 (Rect.unit (s := S384x1536) ![0, 256] S128x256.size inb_S384x1536_S128x256_0_256).toLoadRect (View.loadsAt_vmem h_S128x256))
  let v32 : Vec F S128x256 .bf16 ← Prog.lift (.load arg19 (Rect.unit (s := S384x1536) ![0, 256] S128x256.size inb_S384x1536_S128x256_0_256).toLoadRect (View.loadsAt_vmem h_S128x256))
  Prog.lift (.store arg19 (Rect.unit (s := S384x1536) ![0, 256] S128x256.size inb_S384x1536_S128x256_0_256) (k0_pay44 v3 v22) Finset.univ (View.stores_vmem h_S128x256 (harg19.storeExact_slice rfl _ packedbf16_S384x1536_S128x256_0_256) (fun _ => rfl)) (.inl rfl))
  let v33 : Vec F S128x256 .bf16 ← Prog.lift (.load arg10 (Rect.unit (s := S384x1536) ![0, 512] S128x256.size inb_S384x1536_S128x256_0_512).toLoadRect (View.loadsAt_vmem h_S128x256))
  pure ⟨arg0, k0_pay39 v3, k0_pay40 v5, k0_pay41 v7, k0_pay42 v9, k0_pay45 v33, k0_pay46 v33⟩

/-- The last store of the rescaling. -/
def p16a (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (v8 : FVec F S1x1 .f32) :
    Prog (TpuEff nD τ sig (Elt F) Λ₀ .tc) PUnit := do
  let v242 : Vec F S128x256 .bf16 ← Prog.lift (.load arg11 (Rect.unit (s := S256x512) ![128, 256] S128x256.size inb_S256x512_S128x256_128_256).toLoadRect (View.loadsAt_vmem h_S128x256))
  let v252 : Vec F S128x256 .bf16 ← Prog.lift (.load arg20 (Rect.unit (s := S256x512) ![128, 256] S128x256.size inb_S256x512_S128x256_128_256).toLoadRect (View.loadsAt_vmem h_S128x256))
  Prog.lift (.store arg20 (Rect.unit (s := S256x512) ![128, 256] S128x256.size inb_S256x512_S128x256_128_256) (k0_pay72 v8 v242) Finset.univ (View.stores_vmem h_S128x256 (harg20.storeExact_slice rfl _ packedbf16_S256x512_S128x256_128_256) (fun _ => rfl)) (.inl rfl))

/-- The first loads of the dequantisation. -/
def p16b (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) :
    Prog (TpuEff nD τ sig (Elt F) Λ₀ .tc) (Σ' (v253 : Vec F S48x1536 .bf16) (v262 : FVec F S128x1536 .bf16), Vec F S128x128 .fp8e4m3) := do
  let v253 : Vec F S48x1536 .bf16 ← Prog.lift (.load arg25 (Rect.unit (s := S48x1536) ![0, 0] S48x1536.size inb_S48x1536_S48x1536_0_0).toLoadRect (View.loadsAt_vmem h_S48x1536))
  let v254 : Vec F S48x128 .i8 ← Prog.lift (.load arg13 (Rect.unit (s := S48x384) ![0, 0] S48x128.size inb_S48x384_S48x128_0_0).toLoadRect (View.loadsAt_vmem h_S48x128))
  let v263 : Vec F S128x128 .fp8e4m3 ← Prog.lift (.load arg12 (Rect.unit (s := S384x1536) ![0, 0] S128x128.size inb_S384x1536_S128x128_0_0).toLoadRect (View.loadsAt_vmem h_S128x128))
  let v267 : Vec F S1x128x128 .bf16 ← Prog.lift (.load arg28 (Rect.unit (s := S12x384x128) ![0, 0, 0] S1x128x128.size inb_S12x384x128_S1x128x128_0_0_0).toLoadRect (View.loadsAt_vmem h_S1x128x128))
  Prog.lift (.store arg28 (Rect.unit (s := S12x384x128) ![0, 0, 0] S1x128x128.size inb_S12x384x128_S1x128x128_0_0_0) (k0_pay74 v253 v254 v263) Finset.univ (View.stores_vmem h_S1x128x128 (harg28.storeExact_slice rfl _ packedbf16_S12x384x128_S1x128x128_0_0_0) (fun _ => rfl)) (.inl rfl))
  let v270 : Vec F S128x128 .fp8e4m3 ← Prog.lift (.load arg12 (Rect.unit (s := S384x1536) ![0, 128] S128x128.size inb_S384x1536_S128x128_0_128).toLoadRect (View.loadsAt_vmem h_S128x128))
  let v274 : Vec F S1x128x128 .bf16 ← Prog.lift (.load arg28 (Rect.unit (s := S12x384x128) ![1, 0, 0] S1x128x128.size inb_S12x384x128_S1x128x128_1_0_0).toLoadRect (View.loadsAt_vmem h_S1x128x128))
  Prog.lift (.store arg28 (Rect.unit (s := S12x384x128) ![1, 0, 0] S1x128x128.size inb_S12x384x128_S1x128x128_1_0_0) (k0_pay75 v253 v254 v270) Finset.univ (View.stores_vmem h_S1x128x128 (harg28.storeExact_slice rfl _ packedbf16_S12x384x128_S1x128x128_1_0_0) (fun _ => rfl)) (.inl rfl))
  let v277 : Vec F S128x128 .fp8e4m3 ← Prog.lift (.load arg12 (Rect.unit (s := S384x1536) ![0, 256] S128x128.size inb_S384x1536_S128x128_0_256).toLoadRect (View.loadsAt_vmem h_S128x128))
  pure ⟨v253, k0_pay73 v253 v254, v277⟩

/-- The rescaling, followed by `k`. -/
def progR (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (k : BitVec 32 → Prog (TpuEff nD τ sig (Elt F) Λ₀ .tc) PUnit) :
    Prog (TpuEff nD τ sig (Elt F) Λ₀ .tc) PUnit := do
  let ⟨arg0, v4, v6, v8, v10, v34, v35⟩ : Σ' (arg0 : BitVec 32) (v4 : FVec F S1x1 .f32) (v6 : FVec F S1x1 .f32) (v8 : FVec F S1x1 .f32) (v10 : FVec F S1x1 .f32) (v34 : FVec F S128x256 .f32), FVec F S64x256 .f32 ← p10rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v4 v34 v35
  let v119 : FVec F S128x256 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v6 v8
  let ⟨v158, v159, v160⟩ : Σ' (v158 : FVec F S64x256 .f32) (v159 : FVec F S64x256 .f32), FVec F S64x256 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v6 v8 v10 v119
  let ⟨v199, v200⟩ : Σ' (v199 : FVec F S128x256 .f32), FVec F S64x256 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v8 v10 v158 v159 v160
  k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v4 v8 v10 v199 v200
  p16a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v8
  k arg0

/-- The dequantisation, followed by `k`. -/
def progD (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (k : Prog (TpuEff nD τ sig (Elt F) Λ₀ .tc) PUnit) :
    Prog (TpuEff nD τ sig (Elt F) Λ₀ .tc) PUnit := do
  let ⟨v253, v262, v277⟩ : Σ' (v253 : Vec F S48x1536 .bf16) (v262 : FVec F S128x1536 .bf16), Vec F S128x128 .fp8e4m3 ← p16b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30
  let v308 : FVec F S128x128 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v262 v277
  let v343 : FVec F S128x128 .bf16 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v262 v308
  let v355 : FVec F S128x1536 .bf16 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v253 v343
  let v408 : FVec F S128x128 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v355
  let v441 : IVec S48x128 8 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v355 v408
  let ⟨v448, v476⟩ : Σ' (v448 : FVec F S128x1536 .bf16), FVec F S1x128x128 .bf16 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v253 v441
  let v508 : FVec F S128x128 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v448 v476
  let ⟨v533, v541⟩ : Σ' (v533 : Vec F S16x512 .bf16), FVec F S128x512 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v448 v508
  let ⟨v573, v574⟩ : Σ' (v573 : IVec S16x128 32), IVec S16x128 32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v541
  k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v533 v573 v574
  k

/-- The scores of the block's two heads. -/
def progS (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (arg0 : BitVec 32) :
    Prog (TpuEff nD τ sig (Elt F) Λ₀ .tc) PUnit := do
  let v632 : FVec F S384x1536 .bf16 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30
  let ⟨v634, v645, v646, v653, v656, v658⟩ : Σ' (v634 : FVec F S384x256 .f32) (v645 : FVec F S256x256 .f32) (v646 : IVec S1x128 32) (v653 : Vec F S32x128 .f32) (v656 : Vec F S32x128 .f32), FVec F S32x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v632
  let ⟨v693, v696, v697⟩ : Σ' (v693 : FVec F S192x256 .bf16) (v696 : FVec F S256x128 .bf16), Vec F S256x64 .bf16 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v634 v645 v653 v656 v658
  let ⟨v719, v720, v735⟩ : Σ' (v719 : FVec F S1x1 .f32) (v720 : FVec F S1x1 .f32), FVec F S1x128 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 v646 v693 v696 v697
  let ⟨v767, v768⟩ : Σ' (v767 : FVec F S64x128 .f32), FVec F S64x128 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v634 v719 v720 v735
  let ⟨v803, v804⟩ : Σ' (v803 : FVec F S1x256 .f32), FVec F S1x256 .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v634 v645 v767 v768
  let v842 : FVec F S1x1 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 v646 v803 v804
  let v844 : Vec F S1x128 .f32 ← Prog.lift (.load arg27 (Rect.unit (s := S8x128) ![3, 0] S1x128.size inb_S8x128_S1x128_3_0).toLoadRect (View.loadsAt_vmem h_S1x128))
  Prog.lift (.store arg27 (Rect.unit (s := S8x128) ![3, 0] S1x128.size inb_S8x128_S1x128_3_0) (k0_pay1 v842) Finset.univ (View.stores_vmem_bits_univ h_S1x128 rfl) (.inl rfl))
  pure ⟨⟩

set_option maxRecDepth 65536 in
theorem part10_split (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) :
    k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 = (progI i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun _ => p10rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) := by
  rw [k0_part10_eq_skeleton]
  unfold k0_part10_skel progI
  by_cases h : (Scalar.cmpi .ne (Scalar.extui (Scalar.cmpi .eq (BitVec.ofNat 32 (i 0).val) 0#32)) 0#32) = 1#1
  · simp only [h, ↓reduceDIte, bind_assoc]; rfl
  · simp only [h, ↓reduceDIte, bind_assoc]; rfl

set_option maxRecDepth 65536 in
theorem part16_split (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (v8 : FVec F S1x1 .f32) :
    k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v8 = (p16a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v8 >>= fun _ => p16b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) := rfl

set_option maxRecDepth 65536 in
/-- The body is its four stages in order. -/
theorem body_eq (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) :
    cc0_qk_clip (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30
      = (progI i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun _ => progR i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (fun arg0 => progD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (progS i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0))) := by
  simp only [cc0_qk_clip_eq_skeleton, cc0_qk_clip_skel, part10_split, part16_split, bind_assoc, progR, progD, progS]

end Cert.KernelIdeal.Stage

end
-- ==== Proof.Kit.lean ====
module

public import proofs.«01_k».proof.Proof.Stages
public import Idealize.ShloMosaic.Lib.Pointwise
public import Idealize.ShloMosaic.Lib.WholeRead

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Two indices of a matrix agree when their coordinates do. -/
theorem ix_ext {n m : Nat} {a b : (⟨2, ![n, m]⟩ : Shape).Idx} (h0 : (a 0).val = (b 0).val) (h1 : (a 1).val = (b 1).val) : a = b :=
  funext fun k => match k with | ⟨0, _⟩ => Fin.ext h0 | ⟨1, _⟩ => Fin.ext h1

/-- Two indices of a stack of matrices agree when their coordinates do. -/
theorem ix_ext3 {n m p : Nat} {a b : (⟨3, ![n, m, p]⟩ : Shape).Idx} (h0 : (a 0).val = (b 0).val) (h1 : (a 1).val = (b 1).val)
    (h2 : (a 2).val = (b 2).val) : a = b :=
  funext fun k => match k with | ⟨0, _⟩ => Fin.ext h0 | ⟨1, _⟩ => Fin.ext h1 | ⟨2, _⟩ => Fin.ext h2

/-- Where a unit-stride rectangle puts a coordinate. -/
theorem emb_unit_val {s : Shape} (off size : Fin s.rank → Nat) (inb) (x : (Rect.unit (s := s) off size inb).shape.Idx) (a : Fin s.rank) :
    ((Rect.unit (s := s) off size inb).emb x a).val = off a + (x a).val :=
  (congrArg (off a + ·) (Nat.one_mul _))

/-- A natural number as an index, given that it is in range. -/
abbrev fi (n k : Nat) (h : k < n) : Fin n := ⟨k, h⟩

/-! ### What the first step keeps -/

theorem pay2_apply (a : Vec Ideal S256x128 .fp8e4m3) (b : Vec Ideal S1x256 .f32) (q : S128x256.Idx) :
    k0_pay2 (F := Ideal) a b q = (a (ix2 (q 1) (q 0)) * b (ix2 0 (q 1)) : EReal) := by
  pointwise [k0_pay2]

/-- The scaled latent codes of the query side, transposed. -/
def cqT (x : Vec Ideal S256x1536 .fp8e4m3) (s : Vec Ideal S12x256 .f32) : Vec Ideal S1536x256 .bf16 :=
  fun j => (x (ix2 (j 1) (j 0)) * s (ix2 (fi 12 ((j 0).val / 128) (by have := (j 0).isLt; simp at this; omega)) (j 1)) : EReal)

/-- The scaled latent codes of the key side, transposed. -/
def ckT (x : Vec Ideal S256x512 .fp8e4m3) (s : Vec Ideal S4x256 .f32) : Vec Ideal S512x256 .bf16 :=
  fun j => (x (ix2 (j 1) (j 0)) * s (ix2 (fi 4 ((j 0).val / 128) (by have := (j 0).isLt; simp at this; omega)) (j 1)) : EReal)

/-- The pairs of a rotary axis, the even members first and the odd ones after. -/
def perm (d : Nat) : Nat := if d < 32 then 2 * d else 2 * (d - 32) + 1

theorem perm_lt {d : Nat} (h : d < 64) : perm d < 64 := by unfold perm; split <;> omega

/-- The rotary part of the keys, a row per key, the even members of its pairs first. -/
def kropeP (x : Vec Ideal S64x256 .bf16) : Vec Ideal S256x64 .bf16 :=
  fun j => x (ix2 (fi 64 (perm (j 1).val) (perm_lt (j 1).isLt)) (j 0))

/-- The sequence a position belongs to: how many of the two starts are not after it. -/
def seqOf (x : Vec Ideal S3 .i32) (p : Nat) : BitVec 32 :=
  (if (x (ix1 1)).sle (BitVec.ofNat 32 p) then 1#32 else 0#32) + (if (x (ix1 2)).sle (BitVec.ofNat 32 p) then 1#32 else 0#32)

/-- The additive mask: zero where the query may see the key, minus infinity elsewhere. -/
def biasP (x : Vec Ideal S3 .i32) : Vec Ideal S256x256 .f32 :=
  fun j => (if (j 0).val ≤ (j 1).val ∧ seqOf x (j 0).val = seqOf x (j 1).val then 0 else ⊥ : EReal)

/-- The matrix that repeats every group's scale over its columns, query side. -/
def spreadQ : Vec Ideal S48x1536 .bf16 := fun j => (if (j 0).val = (j 1).val / 32 then 1 else 0 : EReal)

/-- The matrix that repeats every group's scale over its columns, key side. -/
def spreadK : Vec Ideal S16x512 .bf16 := fun j => (if (j 0).val = (j 1).val / 32 then 1 else 0 : EReal)

/-! ### The rescaled weights -/

/-- One block of weights, its upper half times one factor and its lower half times another. -/
def rescP (fa fb : Vec Ideal S1x1 .f32) (v : Vec Ideal S128x256 .bf16) : FVec Ideal S128x256 .bf16 :=
  truncf .bf16 (concatenate S128x256 0
    [⟨S64x256, mulf (extractStridedSlice S64x256 ![0, 0] (extf .f32 v bitsLt_bf16_f32) slices_S128x256_o0_0_S64x256) (broadcastTo S64x256 fa broadcasts_S1x1_S64x256)⟩,
     ⟨S64x256, mulf (extractStridedSlice S64x256 ![64, 0] (extf .f32 v bitsLt_bf16_f32) slices_S128x256_o64_0_S64x256) (broadcastTo S64x256 fb broadcasts_S1x1_S64x256)⟩]
    concatenates_S64x256_S64x256_S128x256_d0) bitsLt_bf16_f32

theorem rescP_apply (fa fb : Vec Ideal S1x1 .f32) (v : Vec Ideal S128x256 .bf16) (q : S128x256.Idx) :
    rescP fa fb v q = (v q * (if (q 0).val < 64 then fa (ix2 0 0) else fb (ix2 0 0)) : EReal) := by
  obtain ⟨r, l, rfl⟩ : ∃ r l, q = ix2 r l := ⟨q 0, q 1, by pointwise⟩
  pointwise [rescP]
  split <;> rename_i h
  · exact congrArg₂ (fun a b : EReal => a * b) rfl (if_pos (c := r.val < 64) h).symm
  · refine congrArg₂ (fun a b : EReal => a * b) (congrArg v (ix_ext ?_ ?_)) (if_neg (c := r.val < 64) h).symm <;> simp <;> omega

theorem ext39 (v : Vec Ideal S1x128 .f32) : k0_pay39 (F := Ideal) v (ix2 0 0) = v (ix2 0 0) := by
  pointwise [k0_pay39]

/-- The first lane of a row of the clip factors, as a load of that row takes it. -/
theorem fac (m : Memref sig .tc .vmem S8x128 .f32) (hm : m.IsWhole) (X : Vec Ideal S8x128 .f32) (a : Nat) (ha : a < 8)
    (inb : ∀ k, (![a, 0] : Fin 2 → Nat) k + S1x128.size k ≤ S8x128.size k) :
    k0_pay39 (F := Ideal) (View.readAt (Elt Ideal) m.view (Rect.unit (s := S8x128) ![a, 0] S1x128.size inb).toLoadRect (hm.unread X)) (ix2 0 0)
      = X (ix2 (fi 8 a ha) 0) :=
  (ext39 _).trans ((Memref.IsWhole.readAt_unread hm X _ _).trans (congrArg X (ix_ext rfl rfl)))

/-- A product whose second factor is chosen by a comparison. -/
theorem mul_choice {v w fa fb g : EReal} {n : Nat} (hv : v = w) (ha : n < 64 → fa = g) (hb : ¬ n < 64 → fb = g) :
    v * (if n < 64 then fa else fb) = w * g := by
  subst hv; split
  · rw [ha ‹_›]
  · rw [hb ‹_›]

/-- Which row of the clip factors a 64-row piece of a query block takes. -/
def rowQ (a : Nat) : Nat := if a < 2 then 0 else if a = 2 then 1 else if a < 5 then 2 else 3
/-- Which row of the clip factors a 64-row piece of a key block takes. -/
def rowK (a : Nat) : Nat := if a < 2 then 0 else 2

theorem rowQ_lt (a : Nat) : rowQ a < 8 := by unfold rowQ; split; omega; split; omega; split <;> omega
theorem rowK_lt (a : Nat) : rowK a < 8 := by unfold rowK; split <;> omega

/-- A query block of weights, rescaled. -/
def rescQ (w : Vec Ideal S384x1536 .bf16) (cl : Vec Ideal S8x128 .f32) : Vec Ideal S384x1536 .bf16 :=
  fun j => (w j * cl (ix2 (fi 8 (rowQ ((j 0).val / 64)) (rowQ_lt _)) 0) : EReal)

/-- A key block of weights, rescaled. -/
def rescK (w : Vec Ideal S256x512 .bf16) (cl : Vec Ideal S8x128 .f32) : Vec Ideal S256x512 .bf16 :=
  fun j => (w j * cl (ix2 (fi 8 (rowK ((j 0).val / 64)) (rowK_lt _)) 0) : EReal)

/-! ### The dequantised weights -/

/-- A scale's exponent byte read as the float whose exponent field it is. -/
def dec (e : BitVec 8) : EReal := Ideal.ofBits .f32 (IntOp.shli .vector (e.setWidth 32) 23#32)

theorem pay73_apply (sp : Vec Ideal S48x1536 .bf16) (e : Vec Ideal S48x128 .i8) (q : S128x1536.Idx) :
    k0_pay73 (F := Ideal) sp e q = (∑ g : Fin 48, dec (e (ix2 g (q 0))) * sp (ix2 g (q 1)) : EReal) := by
  pointwise [k0_pay73, dec]

theorem pay117_apply (sp : Vec Ideal S16x512 .bf16) (e : Vec Ideal S16x128 .i8) (q : S128x512.Idx) :
    k0_pay117 (F := Ideal) sp e q = (∑ g : Fin 16, dec (e (ix2 g (q 0))) * sp (ix2 g (q 1)) : EReal) := by
  pointwise [k0_pay117, dec]

/-- One slab of the dequantised query weights from the wide scales and its codes. -/
def slabQ (o : Nat) (h : S128x1536.Slices ![0, o] S128x128) (w : FVec Ideal S128x1536 .bf16) (v : Vec Ideal S128x128 .fp8e4m3) :
    FVec Ideal S1x128x128 .bf16 :=
  shapeCast S1x128x128 (mulf (extf .bf16 v bitsLt_fp8e4m3_bf16) (extractStridedSlice S128x128 ![0, o] w h)) shapeCasts_S128x128_S1x128x128

theorem slabQ_apply (o : Nat) (h : S128x1536.Slices ![0, o] S128x128) (w : FVec Ideal S128x1536 .bf16) (v : Vec Ideal S128x128 .fp8e4m3)
    (q : S1x128x128.Idx) (ho : o + 128 ≤ 1536) :
    slabQ o h w v q = (v (ix2 (q 1) (q 2)) * w (ix2 (q 1) (fi 1536 (o + (q 2).val) (by have := (q 2).isLt; simp at this; omega))) : EReal) := by
  obtain ⟨u, r, l, rfl⟩ : ∃ u r l, q = ix3 u r l := ⟨q 0, q 1, q 2, by pointwise⟩
  unfold slabQ
  pointwise

/-- One slab of the dequantised key weights from the wide scales and its codes. -/
def slabK (o : Nat) (h : S128x512.Slices ![0, o] S128x128) (w : FVec Ideal S128x512 .bf16) (v : Vec Ideal S128x128 .fp8e4m3) :
    FVec Ideal S1x128x128 .bf16 :=
  shapeCast S1x128x128 (mulf (extf .bf16 v bitsLt_fp8e4m3_bf16) (extractStridedSlice S128x128 ![0, o] w h)) shapeCasts_S128x128_S1x128x128

theorem slabK_apply (o : Nat) (h : S128x512.Slices ![0, o] S128x128) (w : FVec Ideal S128x512 .bf16) (v : Vec Ideal S128x128 .fp8e4m3)
    (q : S1x128x128.Idx) (ho : o + 128 ≤ 512) :
    slabK o h w v q = (v (ix2 (q 1) (q 2)) * w (ix2 (q 1) (fi 512 (o + (q 2).val) (by have := (q 2).isLt; simp at this; omega))) : EReal) := by
  obtain ⟨u, r, l, rfl⟩ : ∃ u r l, q = ix3 u r l := ⟨q 0, q 1, q 2, by pointwise⟩
  unfold slabK
  pointwise

/-- The dequantised query weights of a block, a slab of 128 columns per leading index. -/
def deqQ (w : Vec Ideal S384x1536 .fp8e4m3) (e : Vec Ideal S48x384 .i8) (sp : Vec Ideal S48x1536 .bf16) : Vec Ideal S12x384x128 .bf16 :=
  fun j => (w (ix2 (j 1) (fi 1536 (128 * (j 0).val + (j 2).val) (by have := (j 0).isLt; have := (j 2).isLt; simp at *; omega)))
    * ∑ g : Fin 48, dec (e (ix2 g (j 1))) * sp (ix2 g (fi 1536 (128 * (j 0).val + (j 2).val) (by have := (j 0).isLt; have := (j 2).isLt; simp at *; omega))) : EReal)

/-- The dequantised key weights of a block, a slab of 128 columns per leading index. -/
def deqK (w : Vec Ideal S256x512 .fp8e4m3) (e : Vec Ideal S16x256 .i8) (sp : Vec Ideal S16x512 .bf16) : Vec Ideal S4x256x128 .bf16 :=
  fun j => (w (ix2 (j 1) (fi 512 (128 * (j 0).val + (j 2).val) (by have := (j 0).isLt; have := (j 2).isLt; simp at *; omega)))
    * ∑ g : Fin 16, dec (e (ix2 g (j 1))) * sp (ix2 g (fi 512 (128 * (j 0).val + (j 2).val) (by have := (j 0).isLt; have := (j 2).isLt; simp at *; omega))) : EReal)

end Cert.KernelIdeal.Stage

end
-- ==== Proof.RunI.lean ====
/- One stage of the body as a triple: the pieces its stores leave are the witness. -/
module

public import proofs.«01_k».proof.Proof.Stages

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2240000 in set_option sl_exec.squeezeSlice true in
def runI (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1)
    (x0 : Vec F S3 .i32) (x2 : Vec F S256x1536 .fp8e4m3) (x3 : Vec F S12x256 .f32) (x4 : Vec F S256x512 .fp8e4m3) (x5 : Vec F S4x256 .f32) (x6 : Vec F S64x256 .bf16) :
    Σ' (L16 : List (View.Piece (Elt F) S1x128 .f32)), Σ' (L17 : List (View.Piece (Elt F) S1x128 .f32)), Σ' (L21 : List (View.Piece (Elt F) S1536x256 .bf16)), Σ' (L22 : List (View.Piece (Elt F) S512x256 .bf16)), Σ' (L23 : List (View.Piece (Elt F) S256x64 .bf16)), Σ' (L24 : List (View.Piece (Elt F) S256x256 .f32)), Σ' (L25 : List (View.Piece (Elt F) S48x1536 .bf16)), Σ' (L26 : List (View.Piece (Elt F) S16x512 .bf16)), { L27 : List (View.Piece (Elt F) S8x128 .f32) //

      ∀ (E : Set ℕ) (k : Prog (TpuEff nD τ sig (Elt F) Λ₀ .tc) PUnit) (K : PUnit → sProp 𝕄),
        iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg16 fullShare d) ∗ (∃ d, owns (c : Thread nD τ) arg17 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg30 fullShare d)
            ∗ (iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ d, owns (c : Thread nD τ) arg30 fullShare d)) -∗ wp frame (wpE (defs₀ (F := F)) Variants.none c none) E k K))
          ⊢ wp frame (wpE (defs₀ (F := F)) Variants.none c none) E (progI i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun _ => k) K } := by
  refine ⟨?_, ?_, ?_, ?_, ?_, ?_, ?_, ?_, ?_, fun E k K => ?run⟩
  case run =>
    unfold progI
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%d16, %f16, -, H16⟩, ⟨%d17, %f17, -, H17⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d30, %f30, -, H30⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7
    sl_exec (disch := first | sl_exact hc0)

    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H16]
    · iexists _; iexact H16
    isplitl [H17]
    · iexists _; iexact H17
    isplitl [H21]
    · iexists _; iexact H21
    isplitl [H22]
    · iexists _; iexact H22
    isplitl [H23]
    · iexists _; iexact H23
    isplitl [H24]
    · iexists _; iexact H24
    isplitl [H25]
    · iexists _; iexact H25
    isplitl [H26]
    · iexists _; iexact H26
    isplitl [H27]
    · iexists _; iexact H27
    iexists _, _; isplitr; swap; · iexact H30
    ipureintro; rfl

end Cert.KernelIdeal.Stage

end
-- ==== Proof.ClosedI.lean ====
module

public import proofs.«01_k».proof.Proof.Kit
public import proofs.«01_k».proof.Proof.RunI

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem word_div (q : Nat) (h : q < 1536) :
    (Scalar.select
          (IntOp.andi
            (IntOp.cmpi CmpIPredicate.ne
              (IntOp.subi (BitVec.setWidth 32 (IntOp.cmpi CmpIPredicate.sgt (BitVec.ofNat 32 q) 0#32))
                (BitVec.setWidth 32 (IntOp.cmpi CmpIPredicate.slt (BitVec.ofNat 32 q) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 q) 32#32) 0#32))
          (IntOp.subi (IntOp.divsi ArithUnit.vector (BitVec.ofNat 32 q) 32#32) 1#32)
          (IntOp.divsi ArithUnit.vector (BitVec.ofNat 32 q) 32#32)) = BitVec.ofNat 32 (q / 32) := by
  have key : ∀ q : Fin 1536, (Scalar.select
          (IntOp.andi
            (IntOp.cmpi CmpIPredicate.ne
              (IntOp.subi (BitVec.setWidth 32 (IntOp.cmpi CmpIPredicate.sgt (BitVec.ofNat 32 q.val) 0#32))
                (BitVec.setWidth 32 (IntOp.cmpi CmpIPredicate.slt (BitVec.ofNat 32 q.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 q.val) 32#32) 0#32))
          (IntOp.subi (IntOp.divsi ArithUnit.vector (BitVec.ofNat 32 q.val) 32#32) 1#32)
          (IntOp.divsi ArithUnit.vector (BitVec.ofNat 32 q.val) 32#32)) = BitVec.ofNat 32 (q.val / 32) := by decide +kernel
  exact key ⟨q, h⟩

theorem select_eq_word {α : Type} (a b : Nat) (ha : a < 2 ^ 32) (hb : b < 2 ^ 32) (x y : α) :
    Scalar.select (IntOp.cmpi CmpIPredicate.eq (BitVec.ofNat 32 a) (BitVec.ofNat 32 b)) x y = if a = b then x else y := by
  by_cases h : a = b
  · subst h; simp [Scalar.select, IntOp.cmpi]
  · have : BitVec.ofNat 32 a ≠ BitVec.ofNat 32 b := fun e => h (by
      have := congrArg BitVec.toNat e; simp only [BitVec.toNat_ofNat] at this; omega)
    have hb : (BitVec.ofNat 32 a == BitVec.ofNat 32 b) = false := by simpa using this
    simp [Scalar.select, IntOp.cmpi, h, hb]

theorem spreadQ_eq (q : S48x1536.Idx) :
    k0_pay24 (F := Ideal) runI.sl.v1023 runI.sl.v1024 32#32 k0_pay21 k0_pay22 k0_pay23 q = spreadQ q := by
  have h0 : (q 0).val < 48 := (q 0).isLt
  have h1 : (q 1).val < 1536 := (q 1).isLt
  obtain ⟨r, l, rfl⟩ : ∃ r l, q = ix2 r l := ⟨q 0, q 1, by pointwise⟩
  pointwise [k0_pay24, k0_pay21, k0_pay22, k0_pay23, runI.sl.v1023, runI.sl.v1024, spreadQ]
  refine (congrArg (fun w => Scalar.select (IntOp.cmpi CmpIPredicate.eq (BitVec.ofNat 32 r.val) w) (1 : EReal) 0) (word_div l.val h1)).trans ?_
  refine (select_eq_word _ _ (by have := r.isLt; omega) (by have := l.isLt; omega) _ _).trans rfl

theorem spreadK_eq (q : S16x512.Idx) :
    k0_pay28 (F := Ideal) runI.sl.v1057 k0_pay25 k0_pay26 k0_pay27 0#32 q = spreadK q := by
  have h0 : (q 0).val < 16 := (q 0).isLt
  have h1 : (q 1).val < 512 := (q 1).isLt
  obtain ⟨r, l, rfl⟩ : ∃ r l, q = ix2 r l := ⟨q 0, q 1, by pointwise⟩
  pointwise [k0_pay28, k0_pay25, k0_pay26, k0_pay27, runI.sl.v1057, spreadK]
  refine (congrArg (fun w => Scalar.select (IntOp.cmpi CmpIPredicate.eq (BitVec.ofNat 32 r.val) w) (1 : EReal) 0) (word_div l.val (by have := l.isLt; omega))).trans ?_
  refine (select_eq_word _ _ (by have := r.isLt; omega) (by have := l.isLt; omega) _ _).trans rfl

theorem pay29_apply (a : Vec Ideal S64x128 .bf16) (q : S1x64x128.Idx) :
    k0_pay29 (F := Ideal) a q = a (ix2 (q 1) (q 2)) := by
  obtain ⟨u, r, l, rfl⟩ : ∃ u r l, q = ix3 u r l := ⟨q 0, q 1, q 2, by pointwise⟩
  pointwise [k0_pay29]

theorem pay30_apply (a b : Vec Ideal S32x128 .f32) (q : S128x64.Idx) :
    k0_pay30 (F := Ideal) a b q = if h : (q 1).val < 32 then a (ix2 (fi 32 (q 1).val h) (q 0))
      else b (ix2 (fi 32 ((q 1).val - 32) (by have : (q 1).val < 64 := (q 1).isLt; omega)) (q 0)) := by
  pointwise [k0_pay30]

theorem sel_bool (b : Bool) : Scalar.select (BitVec.ofBool b) 1#32 0#32 = if b = true then 1#32 else 0#32 := by cases b <;> rfl

theorem sle_small {r l : Nat} (hr : r < 256) (hl : l < 256) : (BitVec.ofNat 32 r).sle (BitVec.ofNat 32 l) = decide (r ≤ l) := by
  rw [BitVec.sle_eq_decide, BitVec.toInt_eq_toNat_of_lt (by rw [BitVec.toNat_ofNat]; omega), BitVec.toInt_eq_toNat_of_lt (by rw [BitVec.toNat_ofNat]; omega)]
  simp only [BitVec.toNat_ofNat]
  rw [Nat.mod_eq_of_lt (by omega), Nat.mod_eq_of_lt (by omega)]
  simp

theorem bias_word {r l : Nat} (hr : r < 256) (hl : l < 256) (a b : BitVec 32) :
    Scalar.select (IntOp.andi (IntOp.cmpi CmpIPredicate.sle (BitVec.ofNat 32 r) (BitVec.ofNat 32 l)) (IntOp.cmpi CmpIPredicate.eq a b))
      (0 : EReal) (Ideal.ofBits FTy.f32 4286578688#32) = if r ≤ l ∧ a = b then 0 else ⊥ := by
  have hb : Ideal.ofBits FTy.f32 4286578688#32 = ⊥ := by
    show Ideal.ieee 8 23 (4286578688#32 : BitVec 32) = ⊥
    simp [Ideal.ieee]
  have e1 : IntOp.cmpi CmpIPredicate.sle (BitVec.ofNat 32 r) (BitVec.ofNat 32 l) = BitVec.ofBool (decide (r ≤ l)) :=
    congrArg BitVec.ofBool (sle_small hr hl)
  have e2 : IntOp.cmpi CmpIPredicate.eq a b = BitVec.ofBool (a == b) := rfl
  rw [hb, e1, e2]
  by_cases h1 : r ≤ l <;> by_cases h2 : a = b
  all_goals first | (have h3 : (a == b) = false := by simpa using h2); simp [h1, h2, h3, Scalar.select, IntOp.andi] | simp [h1, h2, Scalar.select, IntOp.andi]

theorem sge_word (a : BitVec 32) (p : Nat) : IntOp.cmpi CmpIPredicate.sge (BitVec.ofNat 32 p) a = BitVec.ofBool (a.sle (BitVec.ofNat 32 p)) := rfl

theorem biasP_eq (c : Dev nD) (arg1 : Memref sig .tc .smem S3 .i32) (harg1 : arg1.IsWhole) (x0 : Vec Ideal S3 .i32) (q : S256x256.Idx) :
    k0_pay35 (F := Ideal) runI.sl.v1127 runI.sl.v1128 (runI.sl.r_5 c arg1 harg1 x0) (runI.sl.r_6 c arg1 harg1 x0)
      (runI.sl.r_7 c arg1 harg1 x0) (runI.sl.r_7 c arg1 harg1 x0) q = biasP x0 q := by
  have h0 : (q 0).val < 256 := (q 0).isLt
  have h1 : (q 1).val < 256 := (q 1).isLt
  have e1 : runI.sl.r_4 c arg1 harg1 x0 = x0 (ix1 1) :=
    (Memref.IsWhole.readAt_unread _ _ _ _).trans (congrArg x0 (funext fun k => match k with | ⟨0, _⟩ => rfl))
  have e2 : runI.sl.r_7 c arg1 harg1 x0 = x0 (ix1 2) :=
    (Memref.IsWhole.readAt_unread _ _ _ _).trans (congrArg x0 (funext fun k => match k with | ⟨0, _⟩ => rfl))
  rw [e2]
  unfold runI.sl.r_5 runI.sl.r_6
  rw [e1]
  obtain ⟨r, l, rfl⟩ : ∃ r l, q = ix2 r l := ⟨q 0, q 1, by pointwise⟩
  pointwise [k0_pay35, k0_pay33, k0_pay34, runI.sl.v1127, runI.sl.v1128, biasP, seqOf]
  simp only [sge_word, sel_bool]
  refine (bias_word r.isLt l.isLt _ _).trans ?_
  simp only [IntOp.addi, BitVec.zero_add]
  congr

theorem rope_read (v : View sig .tc .vmem S5x64x128 .f32) (a o : Nat) (ha : ∀ k, (![a, 0, 0] : Fin 3 → Nat) k + S1x64x128.size k ≤ S5x64x128.size k)
    (p : FVec Ideal S1x64x128 .f32) (L : List (View.Piece (Elt Ideal) S5x64x128 .f32)) (ho : o < 2)
    (hb : ∀ k, S32x128.size k = 0 ∨ (![o, 0] : Fin 2 → Nat) k + (![2, 1] : Fin 2 → Nat) k * (S32x128.size k - 1) < S64x128.size k) (h1 h2 h3 hR) (x : S32x128.Idx) :
    LoadRect.valAlong (lr := (⟨![o, 0], S32x128.size, ![2, 1], hb⟩ : LoadRect S64x128))
      (LR := (Rect.unit (s := S5x64x128) ![a, 0, 0] S1x64x128.size ha).withinL
      ((⟨![o, 0], S32x128.size, ![2, 1], hb⟩ : LoadRect S64x128).consLift ![1, 64, 128] h1 h2) h3) hR
      (v.readCov (⟨Rect.unit (s := S5x64x128) ![a, 0, 0] S1x64x128.size ha, p⟩ :: L)
        ((Rect.unit (s := S5x64x128) ![a, 0, 0] S1x64x128.size ha).withinL
      ((⟨![o, 0], S32x128.size, ![2, 1], hb⟩ : LoadRect S64x128).consLift ![1, 64, 128] h1 h2) h3)) x
      = p (ix3 0 (fi 64 (2 * (x 0).val + o) (by have : (x 0).val < 32 := (x 0).isLt; omega)) (x 1)) := by
  rw [View.readCov_eq_canon']
  unfold LoadRect.valAlong
  have hx : Shape.reshapeEquiv hR x = Fin.cons ⟨0, Nat.one_pos⟩ x := Shape.reshapeEquiv_cons_one (d := S32x128.size) _ _
  rw [hx]
  refine Eq.trans (congrArg (View.canon _) (?_ : _ = (Rect.unit (s := S5x64x128) ![a, 0, 0] S1x64x128.size ha).emb (ix3 0 (fi 64 (2 * (x 0).val + o) _) (x 1)))) (View.canon_cons_emb _ _ _ _)
  refine ix_ext3 ?_ ?_ ?_
  · rw [emb_unit_val]; rfl
  · rw [emb_unit_val]
    show (0 + o) + 2 * (x 0).val = 0 + (2 * (x 0).val + o)
    omega
  · rw [emb_unit_val]
    show (0 + 0) + 1 * (x 1).val = 0 + (x 1).val
    omega

set_option maxHeartbeats 2000000 in
theorem canon_I21 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.1 = cqT x2 x3 := by
  funext y
  refine View.canon_apply_of_pieces (cqT x2 x3) _ ?_ y (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.1 S128x256.size (by sl_kernel_rfl) y)
  unfold runI
  dsimp only
  simp only [List.forall_mem_cons, List.not_mem_nil, false_imp_iff, implies_true, and_true]
  refine ⟨?_, ?_, ?_, ?_, ?_, ?_, ?_, ?_, ?_, ?_, ?_, ?_⟩
  all_goals
    intro x
    refine (pay2_apply _ _ x).trans ?_
    have hx : (x 0).val < 128 := (x 0).isLt
    refine congrArg₂ (fun a b : EReal => a * b) ((Memref.IsWhole.readAt_unread _ _ _ _).trans (congrArg x2 (ix_ext ?_ ?_)))
      ((Memref.IsWhole.readAt_unread _ _ _ _).trans (congrArg x3 (ix_ext ?_ ?_))) <;>
      simp [emb_unit_val, fi] <;> omega

set_option maxHeartbeats 2000000 in
theorem canon_I22 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.1 = ckT x4 x5 := by
  funext y
  refine View.canon_apply_of_pieces (ckT x4 x5) _ ?_ y (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.1 S128x256.size (by sl_kernel_rfl) y)
  unfold runI
  dsimp only
  simp only [List.forall_mem_cons, List.not_mem_nil, false_imp_iff, implies_true, and_true]
  refine ⟨?_, ?_, ?_, ?_⟩
  all_goals
    intro x
    refine (pay2_apply _ _ x).trans ?_
    have hx : (x 0).val < 128 := (x 0).isLt
    refine congrArg₂ (fun a b : EReal => a * b) ((Memref.IsWhole.readAt_unread _ _ _ _).trans (congrArg x4 (ix_ext ?_ ?_)))
      ((Memref.IsWhole.readAt_unread _ _ _ _).trans (congrArg x5 (ix_ext ?_ ?_))) <;>
      simp [emb_unit_val, fi] <;> omega

theorem canon_I16 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).1 = fun _ => (0 : EReal) := by
  unfold runI
  dsimp only
  refine (View.canon_unit_zero (by funext a; fin_cases a <;> rfl) _ _).trans ?_
  funext q
  pointwise [k0_pay37]

theorem canon_I17 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.1 = fun _ => (0 : EReal) := by
  unfold runI
  dsimp only
  refine (View.canon_unit_zero (by funext a; fin_cases a <;> rfl) _ _).trans ?_
  funext q
  pointwise [k0_pay38]

theorem canon_I27 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.2.1 = fun _ => (1 : EReal) := by
  unfold runI
  dsimp only
  refine (View.canon_unit_zero (by funext a; fin_cases a <;> rfl) _ _).trans ?_
  funext q
  pointwise [k0_pay36]

theorem canon_I25 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.1 = spreadQ := by
  unfold runI
  dsimp only
  refine (View.canon_unit_zero (by funext a; fin_cases a <;> rfl) _ _).trans ?_
  funext q
  exact spreadQ_eq q

theorem canon_I26 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.1 = spreadK := by
  unfold runI
  dsimp only
  refine (View.canon_unit_zero (by funext a; fin_cases a <;> rfl) _ _).trans ?_
  funext q
  exact spreadK_eq q

theorem canon_I24 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.1 = biasP x0 := by
  unfold runI
  dsimp only
  refine (View.canon_unit_zero (by funext a; fin_cases a <;> rfl) _ _).trans ?_
  funext q
  exact biasP_eq c arg1 harg1 x0 q

set_option maxHeartbeats 2000000 in
theorem canon_I23 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole) (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) : View.canon (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.1 = kropeP x6 := by
  funext y
  refine View.canon_apply_of_pieces (kropeP x6) _ ?_ y (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.1 S128x64.size (by sl_kernel_rfl) y)
  unfold runI
  dsimp only
  simp only [List.forall_mem_cons, List.not_mem_nil, false_imp_iff, implies_true, and_true]
  refine ⟨?_, ?_⟩
  all_goals
    intro x
    refine (pay30_apply _ _ x).trans ?_
    unfold kropeP
    have hx : (x 1).val < 64 := (x 1).isLt
    have hx0 : (x 0).val < 128 := (x 0).isLt
    split
    · refine (rope_read _ _ 0 _ _ _ (by decide) _ _ _ _ _ _).trans ?_
      refine (pay29_apply _ _).trans ((Memref.IsWhole.readAt_unread _ _ _ _).trans (congrArg x6 (ix_ext ?_ ?_))) <;>
        simp [emb_unit_val, fi, perm] <;> omega
    · refine (rope_read _ _ 1 _ _ _ (by decide) _ _ _ _ _ _).trans ?_
      refine (pay29_apply _ _).trans ((Memref.IsWhole.readAt_unread _ _ _ _).trans (congrArg x6 (ix_ext ?_ ?_))) <;>
        simp [emb_unit_val, fi, perm] <;> omega

end Cert.KernelIdeal.Stage

end
-- ==== Proof.RunR.lean ====
/- One stage of the body as a triple: the pieces its stores leave are the witness. -/
module

public import proofs.«01_k».proof.Proof.Stages

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1644000 in set_option sl_exec.squeezeSlice true in
def runR (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)
    (x9 : Vec F S384x1536 .bf16) (x10 : Vec F S256x512 .bf16) (xs6 : Vec F S8x128 .f32) :
    Σ' (L19 : List (View.Piece (Elt F) S384x1536 .bf16)), { L20 : List (View.Piece (Elt F) S256x512 .bf16) //

      ∀ (E : Set ℕ) (k : BitVec 32 → Prog (TpuEff nD τ sig (Elt F) Λ₀ .tc) PUnit) (K : PUnit → sProp 𝕄),
        iprop(owns (c : Thread nD τ) arg10 fullShare x9 ∗ owns (c : Thread nD τ) arg11 fullShare x10 ∗ (∃ d, owns (c : Thread nD τ) arg19 fullShare d) ∗ (∃ d, owns (c : Thread nD τ) arg20 fullShare d) ∗ owns (c : Thread nD τ) arg27 fullShare xs6
            ∗ (iprop(owns (c : Thread nD τ) arg10 fullShare x9 ∗ owns (c : Thread nD τ) arg11 fullShare x10 ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ owns (c : Thread nD τ) arg27 fullShare xs6) -∗ wp frame (wpE (defs₀ (F := F)) Variants.none c none) E (k (BitVec.ofNat 32 (i 0).val)) K))
          ⊢ wp frame (wpE (defs₀ (F := F)) Variants.none c none) E (progR i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 k) K } := by
  refine ⟨?_, ?_, fun E k K => ?run⟩
  case run =>
    unfold progR p10rest p16a
    simp only [k0_part11_eq_skeleton, k0_part12_eq_skeleton, k0_part13_eq_skeleton, k0_part14_eq_skeleton, k0_part15_eq_skeleton]
    unfold owns
    iintro ⟨⟨%f10, %hf10, H10⟩, ⟨%f11, %hf11, H11⟩, ⟨%d19, %f19, -, H19⟩, ⟨%d20, %f20, -, H20⟩, ⟨%f27, %hf27, H27⟩, Hk⟩
    obtain rfl := harg10.eq_unread hf10; obtain rfl := harg11.eq_unread hf11; obtain rfl := harg27.eq_unread hf27
    sl_exec

    iapply Hk
    isplitl [H10]
    · iexists _; isplitr; · ipureintro; exact harg10.read_unread _
      iexact H10
    isplitl [H11]
    · iexists _; isplitr; · ipureintro; exact harg11.read_unread _
      iexact H11
    isplitl [H19]
    · iexists _; iexact H19
    isplitl [H20]
    · iexists _; iexact H20
    iexists _; isplitr; · ipureintro; exact harg27.read_unread _
    iexact H27

end Cert.KernelIdeal.Stage

end
-- ==== Proof.ClosedR.lean ====
module

public import proofs.«01_k».proof.Proof.Kit
public import proofs.«01_k».proof.Proof.RunR

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
theorem canon_R19 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x9 : Vec Ideal S384x1536 .bf16) (x10 : Vec Ideal S256x512 .bf16) (xs6 : Vec Ideal S8x128 .f32) : View.canon (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).1 = rescQ x9 xs6 := by
  funext y
  refine View.canon_apply_of_pieces (rescQ x9 xs6) _ ?_ y (View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).1 S128x256.size (by sl_kernel_rfl) y)
  unfold runR
  dsimp only
  simp only [List.forall_mem_cons, List.not_mem_nil, false_imp_iff, implies_true, and_true]
  refine ⟨?_, ?_, ?_, ?_, ?_, ?_, ?_, ?_, ?_, ?_, ?_, ?_, ?_, ?_, ?_, ?_, ?_, ?_⟩
  all_goals
    intro x
    first
    | refine (rescP_apply _ _ _ x).trans ?_
    | unfold runR.sl.r_1 runR.sl.r_2 runR.sl.r_3 k0_pay62 k0_pay59 k0_pay60 k0_pay61
      refine (rescP_apply _ _ _ x).trans ?_
    unfold rescQ
    have hx : (x 0).val < 128 := (x 0).isLt
    refine mul_choice ((Memref.IsWhole.readAt_unread _ _ _ _).trans (congrArg x9 rfl)) (fun hn => (fac _ _ _ _ (by decide) _).trans (congrArg xs6 (ix_ext ?_ rfl))) (fun hn => (fac _ _ _ _ (by decide) _).trans (congrArg xs6 (ix_ext ?_ rfl))) <;>
      (simp only [emb_unit_val, rowQ, fi, ix2_0, Matrix.cons_val_zero, Matrix.cons_val_one]; (first | rfl | (split_ifs <;> omega)))

set_option maxHeartbeats 2000000 in
theorem canon_R20 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x9 : Vec Ideal S384x1536 .bf16) (x10 : Vec Ideal S256x512 .bf16) (xs6 : Vec Ideal S8x128 .f32) : View.canon (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).2.1 = rescK x10 xs6 := by
  funext y
  refine View.canon_apply_of_pieces (rescK x10 xs6) _ ?_ y (View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).2.1 S128x256.size (by sl_kernel_rfl) y)
  unfold runR
  dsimp only
  simp only [List.forall_mem_cons, List.not_mem_nil, false_imp_iff, implies_true, and_true]
  refine ⟨?_, ?_, ?_, ?_⟩
  all_goals
    intro x
    first
    | refine (rescP_apply _ _ _ x).trans ?_
    | unfold runR.sl.r_1 runR.sl.r_2 runR.sl.r_3 k0_pay62 k0_pay59 k0_pay60 k0_pay61
      refine (rescP_apply _ _ _ x).trans ?_
    unfold rescK
    have hx : (x 0).val < 128 := (x 0).isLt
    refine mul_choice ((Memref.IsWhole.readAt_unread _ _ _ _).trans (congrArg x10 rfl)) (fun hn => (fac _ _ _ _ (by decide) _).trans (congrArg xs6 (ix_ext ?_ rfl))) (fun hn => (fac _ _ _ _ (by decide) _).trans (congrArg xs6 (ix_ext ?_ rfl))) <;>
      (simp only [emb_unit_val, rowK, fi, ix2_0, Matrix.cons_val_zero, Matrix.cons_val_one]; (first | rfl | (split_ifs <;> omega)))

end Cert.KernelIdeal.Stage

end
-- ==== Proof.RunD.lean ====
/- One stage of the body as a triple: the pieces its stores leave are the witness. -/
module

public import proofs.«01_k».proof.Proof.Stages

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1644000 in set_option sl_exec.squeezeSlice true in
def runD (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)
    (x11 : Vec F S384x1536 .fp8e4m3) (x12 : Vec F S48x384 .i8) (x13 : Vec F S256x512 .fp8e4m3) (x14 : Vec F S16x256 .i8) (xs4 : Vec F S48x1536 .bf16) (xs5 : Vec F S16x512 .bf16) :
    Σ' (L28 : List (View.Piece (Elt F) S12x384x128 .bf16)), { L29 : List (View.Piece (Elt F) S4x256x128 .bf16) //

      ∀ (E : Set ℕ) (k : Prog (TpuEff nD τ sig (Elt F) Λ₀ .tc) PUnit) (K : PUnit → sProp 𝕄),
        iprop(owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg25 fullShare xs4 ∗ owns (c : Thread nD τ) arg26 fullShare xs5 ∗ (∃ d, owns (c : Thread nD τ) arg28 fullShare d) ∗ (∃ d, owns (c : Thread nD τ) arg29 fullShare d)
            ∗ (iprop(owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg25 fullShare xs4 ∗ owns (c : Thread nD τ) arg26 fullShare xs5 ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29)) -∗ wp frame (wpE (defs₀ (F := F)) Variants.none c none) E k K))
          ⊢ wp frame (wpE (defs₀ (F := F)) Variants.none c none) E (progD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 k) K } := by
  refine ⟨?_, ?_, fun E k K => ?run⟩
  case run =>
    unfold progD p16b
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f12, %hf12, H12⟩, ⟨%f13, %hf13, H13⟩, ⟨%f14, %hf14, H14⟩, ⟨%f15, %hf15, H15⟩, ⟨%f25, %hf25, H25⟩, ⟨%f26, %hf26, H26⟩, ⟨%d28, %f28, -, H28⟩, ⟨%d29, %f29, -, H29⟩, Hk⟩
    obtain rfl := harg12.eq_unread hf12; obtain rfl := harg13.eq_unread hf13; obtain rfl := harg14.eq_unread hf14; obtain rfl := harg15.eq_unread hf15; obtain rfl := harg25.eq_unread hf25; obtain rfl := harg26.eq_unread hf26
    sl_exec

    iapply Hk
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H25]
    · iexists _; isplitr; · ipureintro; exact harg25.read_unread _
      iexact H25
    isplitl [H26]
    · iexists _; isplitr; · ipureintro; exact harg26.read_unread _
      iexact H26
    isplitl [H28]
    · iexists _; iexact H28
    iexists _; iexact H29

end Cert.KernelIdeal.Stage

end
-- ==== Proof.ClosedD.lean ====
module

public import proofs.«01_k».proof.Proof.Kit
public import proofs.«01_k».proof.Proof.RunD

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
theorem canon_D28 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x11 : Vec Ideal S384x1536 .fp8e4m3) (x12 : Vec Ideal S48x384 .i8) (x13 : Vec Ideal S256x512 .fp8e4m3) (x14 : Vec Ideal S16x256 .i8) (xs4 : Vec Ideal S48x1536 .bf16) (xs5 : Vec Ideal S16x512 .bf16) : View.canon (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).1 = deqQ x11 x12 xs4 := by
  funext y
  refine View.canon_apply_of_pieces (deqQ x11 x12 xs4) _ ?_ y (View.cover_of_tiledL (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).1 S1x128x128.size (by sl_kernel_rfl) y)
  unfold runD
  dsimp only
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    intro x
    refine (slabQ_apply _ _ _ _ x (by decide)).trans ?_
    unfold deqQ
    have h0 : (x 0).val < 1 := (x 0).isLt
    have h1 : (x 1).val < 128 := (x 1).isLt
    have h2 : (x 2).val < 128 := (x 2).isLt
    refine congrArg₂ (fun a b : EReal => a * b) ((Memref.IsWhole.readAt_unread _ _ _ _).trans (congrArg x11 (ix_ext ?_ ?_))) ((pay73_apply _ _ _).trans
      (Finset.sum_congr rfl fun g _ => congrArg₂ (fun a b : EReal => a * b)
        (congrArg dec ((Memref.IsWhole.readAt_unread _ _ _ _).trans (congrArg x12 (ix_ext ?_ ?_))))
        ((Memref.IsWhole.readAt_unread _ _ _ _).trans (congrArg xs4 (ix_ext ?_ ?_))))) <;>
      simp [emb_unit_val, fi] <;> omega

set_option maxHeartbeats 8000000 in
theorem canon_D29 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x11 : Vec Ideal S384x1536 .fp8e4m3) (x12 : Vec Ideal S48x384 .i8) (x13 : Vec Ideal S256x512 .fp8e4m3) (x14 : Vec Ideal S16x256 .i8) (xs4 : Vec Ideal S48x1536 .bf16) (xs5 : Vec Ideal S16x512 .bf16) : View.canon (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).2.1 = deqK x13 x14 xs5 := by
  funext y
  refine View.canon_apply_of_pieces (deqK x13 x14 xs5) _ ?_ y (View.cover_of_tiledL (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).2.1 S1x128x128.size (by sl_kernel_rfl) y)
  unfold runD
  dsimp only
  simp only [List.forall_mem_cons, List.not_mem_nil, false_imp_iff, implies_true, and_true]
  refine ⟨?_, ?_, ?_, ?_, ?_, ?_, ?_, ?_⟩
  all_goals
    intro x
    refine (slabK_apply _ _ _ _ x (by decide)).trans ?_
    unfold deqK
    have h0 : (x 0).val < 1 := (x 0).isLt
    have h1 : (x 1).val < 128 := (x 1).isLt
    have h2 : (x 2).val < 128 := (x 2).isLt
    refine congrArg₂ (fun a b : EReal => a * b) ((Memref.IsWhole.readAt_unread _ _ _ _).trans (congrArg x13 (ix_ext ?_ ?_))) ((pay117_apply _ _ _).trans
      (Finset.sum_congr rfl fun g _ => congrArg₂ (fun a b : EReal => a * b)
        (congrArg dec ((Memref.IsWhole.readAt_unread _ _ _ _).trans (congrArg x14 (ix_ext ?_ ?_))))
        ((Memref.IsWhole.readAt_unread _ _ _ _).trans (congrArg xs5 (ix_ext ?_ ?_))))) <;>
      simp [emb_unit_val, fi] <;> omega

end Cert.KernelIdeal.Stage

end
-- ==== Proof.RunS.lean ====
/- One stage of the body as a triple: the pieces its stores leave are the witness. -/
module

public import proofs.«01_k».proof.Proof.Stages

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1644000 in set_option sl_exec.squeezeSlice true in
def runS (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)
    (x1 : Vec F S1 .f32) (x7 : Vec F S32x256 .f32) (x8 : Vec F S32x256 .f32) (x15 : Vec F S1x128 .f32) (x16 : Vec F S1x128 .f32) (x17 : Vec F S96x256 .f32) (xs0 : Vec F S1536x256 .bf16) (xs1 : Vec F S512x256 .bf16) (xs2 : Vec F S256x64 .bf16) (xs3 : Vec F S256x256 .f32) (xs6 : Vec F S8x128 .f32) (xs7 : Vec F S12x384x128 .bf16) (xs8 : Vec F S4x256x128 .bf16) :
    Σ' (L16 : List (View.Piece (Elt F) S1x128 .f32)), Σ' (L17 : List (View.Piece (Elt F) S1x128 .f32)), Σ' (L18 : List (View.Piece (Elt F) S96x256 .f32)), { L27 : List (View.Piece (Elt F) S8x128 .f32) //

      ∀ (E : Set ℕ) (K : PUnit → sProp 𝕄),
        iprop(owns (c : Thread nD τ) arg2 fullShare x1 ∗ owns (c : Thread nD τ) arg8 fullShare x7 ∗ owns (c : Thread nD τ) arg9 fullShare x8 ∗ owns (c : Thread nD τ) arg16 fullShare x15 ∗ owns (c : Thread nD τ) arg17 fullShare x16 ∗ owns (c : Thread nD τ) arg18 fullShare x17 ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg27 fullShare xs6 ∗ owns (c : Thread nD τ) arg28 fullShare xs7 ∗ owns (c : Thread nD τ) arg29 fullShare xs8 ∗ (∃ d, owns (c : Thread nD τ) arg30 fullShare d)
            ∗ (iprop(owns (c : Thread nD τ) arg2 fullShare x1 ∗ owns (c : Thread nD τ) arg8 fullShare x7 ∗ owns (c : Thread nD τ) arg9 fullShare x8 ∗ (arg16.view.loc (c : Thread nD τ) ↦[arg16.view.set]{fullShare} arg16.view.writes (Elt F) (harg16.unread x15) L16) ∗ (arg17.view.loc (c : Thread nD τ) ↦[arg17.view.set]{fullShare} arg17.view.writes (Elt F) (harg17.unread x16) L17) ∗ (arg18.view.loc (c : Thread nD τ) ↦[arg18.view.set]{fullShare} arg18.view.writes (Elt F) (harg18.unread x17) L18) ∗ owns (c : Thread nD τ) arg21 fullShare xs0 ∗ owns (c : Thread nD τ) arg22 fullShare xs1 ∗ owns (c : Thread nD τ) arg23 fullShare xs2 ∗ owns (c : Thread nD τ) arg24 fullShare xs3 ∗ (arg27.view.loc (c : Thread nD τ) ↦[arg27.view.set]{fullShare} arg27.view.writes (Elt F) (harg27.unread xs6) L27) ∗ owns (c : Thread nD τ) arg28 fullShare xs7 ∗ owns (c : Thread nD τ) arg29 fullShare xs8 ∗ (∃ d, owns (c : Thread nD τ) arg30 fullShare d)) -∗ K ⟨⟩))
          ⊢ wp frame (wpE (defs₀ (F := F)) Variants.none c none) E (progS i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val)) K } := by
  refine ⟨?_, ?_, ?_, ?_, fun E K => ?run⟩
  case run =>
    unfold progS
    simp only [k0_part27_eq_skeleton, k0_part28_eq_skeleton, k0_part29_eq_skeleton, k0_part30_eq_skeleton, k0_part31_eq_skeleton, k0_part32_eq_skeleton, k0_part33_eq_skeleton]
    unfold owns
    iintro ⟨⟨%f2, %hf2, H2⟩, ⟨%f8, %hf8, H8⟩, ⟨%f9, %hf9, H9⟩, ⟨%f16, %hf16, H16⟩, ⟨%f17, %hf17, H17⟩, ⟨%f18, %hf18, H18⟩, ⟨%f21, %hf21, H21⟩, ⟨%f22, %hf22, H22⟩, ⟨%f23, %hf23, H23⟩, ⟨%f24, %hf24, H24⟩, ⟨%f27, %hf27, H27⟩, ⟨%f28, %hf28, H28⟩, ⟨%f29, %hf29, H29⟩, ⟨%d30, %f30, -, H30⟩, Hk⟩
    obtain rfl := harg2.eq_unread hf2; obtain rfl := harg8.eq_unread hf8; obtain rfl := harg9.eq_unread hf9; obtain rfl := harg16.eq_unread hf16; obtain rfl := harg17.eq_unread hf17; obtain rfl := harg18.eq_unread hf18; obtain rfl := harg21.eq_unread hf21; obtain rfl := harg22.eq_unread hf22; obtain rfl := harg23.eq_unread hf23; obtain rfl := harg24.eq_unread hf24; obtain rfl := harg27.eq_unread hf27; obtain rfl := harg28.eq_unread hf28; obtain rfl := harg29.eq_unread hf29
    sl_exec
    sl_step
    iapply Hk
    isplitl [H2]
    · iexists _; isplitr; · ipureintro; exact harg2.read_unread _
      iexact H2
    isplitl [H8]
    · iexists _; isplitr; · ipureintro; exact harg8.read_unread _
      iexact H8
    isplitl [H9]
    · iexists _; isplitr; · ipureintro; exact harg9.read_unread _
      iexact H9
    isplitl [H16]
    · iexact H16
    isplitl [H17]
    · iexact H17
    isplitl [H18]
    · iexact H18
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H27]
    · iexact H27
    isplitl [H28]
    · iexists _; isplitr; · ipureintro; exact harg28.read_unread _
      iexact H28
    isplitl [H29]
    · iexists _; isplitr; · ipureintro; exact harg29.read_unread _
      iexact H29
    iexists _, _; isplitr; swap; · iexact H30
    ipureintro; rfl

end Cert.KernelIdeal.Stage

end
-- ==== Proof.KitS.lean ====
module

public import proofs.«01_k».proof.Proof.ClosedI
public import proofs.«01_k».proof.Proof.RunS

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The sum of a tile's weights, read slab by slab, against the transposed latent queries. -/
def qT (w : Vec Ideal S12x384x128 .bf16) (cq : Vec Ideal S1536x256 .bf16) : FVec Ideal S384x256 .f32 := fun y =>
  ∑ k : Fin 1536, w (ix3 (fi 12 (k.val / 128) (by omega)) (y 0) (fi 128 (k.val % 128) (by omega))) * cq (ix2 k (y 1))

/-- The same for the latent keys. -/
def kT (w : Vec Ideal S4x256x128 .bf16) (ck : Vec Ideal S512x256 .bf16) : FVec Ideal S256x256 .f32 := fun y =>
  ∑ k : Fin 512, w (ix3 (fi 4 (k.val / 128) (by omega)) (y 0) (fi 128 (k.val % 128) (by omega))) * ck (ix2 k (y 1))

/-- The rotated part of head `h` of the queries, its even lanes before its odd ones. -/
def ropeV (h : Nat) (hh : h < 2) (q : FVec Ideal S384x256 .f32) (cs sn : Vec Ideal S32x256 .f32) (r : Fin 64) (l : Fin 256) : EReal :=
  if hr : r.val < 32 then
    q (ix2 (fi 384 (192 * h + 128 + (2 * r.val + 0)) (by omega)) l) * cs (ix2 (fi 32 r.val hr) l)
      - q (ix2 (fi 384 (192 * h + 128 + (2 * r.val + 1)) (by omega)) l) * sn (ix2 (fi 32 r.val hr) l)
  else
    q (ix2 (fi 384 (192 * h + 128 + (2 * (r.val - 32) + 0)) (by omega)) l) * sn (ix2 (fi 32 (r.val - 32) (by omega)) l)
      + q (ix2 (fi 384 (192 * h + 128 + (2 * (r.val - 32) + 1)) (by omega)) l) * cs (ix2 (fi 32 (r.val - 32) (by omega)) l)

/-- The largest allowed score of head `h` at a query position, before the scale. -/
def rawRow (h : Nat) (hh : h < 2) (q : FVec Ideal S384x256 .f32) (k : FVec Ideal S256x256 .f32) (kr : Vec Ideal S256x64 .bf16)
    (cs sn : Vec Ideal S32x256 .f32) (b : Vec Ideal S256x256 .f32) (l : Fin 256) : EReal :=
  Finset.fold max (Ideal.ofBits FTy.f32 4286578688#32) (fun x : Fin 256 =>
    ∑ d : Fin 128, k (ix2 (fi 256 (128 * h + d.val) (by omega)) x) * q (ix2 (fi 384 (192 * h + d.val) (by omega)) l)
      + ∑ r : Fin 64, kr (ix2 x r) * ropeV h hh q cs sn r l + b (ix2 x l)) Finset.univ

/-- The scaled row of head `h`. -/
def rowV (h : Nat) (hh : h < 2) (q : FVec Ideal S384x256 .f32) (k : FVec Ideal S256x256 .f32) (kr : Vec Ideal S256x64 .bf16)
    (cs sn : Vec Ideal S32x256 .f32) (b : Vec Ideal S256x256 .f32) (l : Fin 256) : EReal :=
  rawRow h hh q k kr cs sn b l * Ideal.ofBits FTy.f32 1033096506#32

/-- The largest entry of a row. -/
def smaxV (row : Fin 256 → EReal) : EReal := Finset.fold max (Ideal.ofBits FTy.f32 4286578688#32) row Finset.univ

/-- The clip factor of a largest logit. -/
def gamV (tau s : EReal) : EReal := min 1 (Ideal.div tau (max s (Ideal.ofBits FTy.f32 897988541#32)))

/-- A read of a whole memref through a unit rectangle at the origin is its contents. -/
theorem slab_read {s : Shape} {e : EltTy} {sp : Space} (arg : Memref sig .tc sp s e) (h : arg.IsWhole) (x : s.Idx → Elt Ideal e) (off : Fin s.rank → Nat) (ho : off = fun _ => 0) (hb : ∀ k, off k + s.size k ≤ s.size k) :
    View.readAt (Elt Ideal) arg.view (Rect.unit off s.size hb).toLoadRect (h.unread x) = x := by
  funext y
  refine (Memref.IsWhole.readAt_unread _ _ _ _).trans (congrArg x (funext fun k => Fin.ext ?_))
  subst ho
  refine (emb_unit_val (s := s) _ _ _ _ _).trans ?_
  simp

theorem dite_elim {α : Type} {p : Prop} [Decidable p] {a : p → α} {b : ¬ p → α} {z : α} (h1 : ∀ h, a h = z) (h2 : ∀ h, b h = z) : dite p a b = z := by
  by_cases h : p
  · rw [dif_pos h]; exact h1 h
  · rw [dif_neg h]; exact h2 h

set_option maxHeartbeats 2000000 in
theorem pay130_apply (arg28 : Memref sig .tc .vmem S12x384x128 .bf16) (harg28 : arg28.IsWhole) (c : Dev nD) (xs7 : Vec Ideal S12x384x128 .bf16) (r : Fin 384) (l : Fin 1536) :
    runS.sl.r (F := Ideal) c arg28 harg28 xs7 (ix2 r l) = xs7 (ix3 (fi 12 (l.val / 128) (by omega)) r (fi 128 (l.val % 128) (by omega))) := by
  unfold runS.sl.r
  pointwise [k0_pay130]
  repeat' refine dite_elim (fun _ => ?_) (fun _ => ?_)
  all_goals
    refine (Memref.IsWhole.readAt_unread _ _ _ _).trans (congrArg xs7 (ix_ext3 ?_ ?_ ?_)) <;>
      simp [emb_unit_val, fi] <;> omega

theorem r1_eq (c : Dev nD) (arg21 : Memref sig .tc .vmem S1536x256 .bf16) (harg21 : arg21.IsWhole) (arg28 : Memref sig .tc .vmem S12x384x128 .bf16) (harg28 : arg28.IsWhole)
    (xs0 : Vec Ideal S1536x256 .bf16) (xs7 : Vec Ideal S12x384x128 .bf16) :
    runS.sl.r_1 (F := Ideal) c arg21 harg21 arg28 harg28 xs0 xs7 = qT xs7 xs0 := by
  funext q
  unfold runS.sl.r_1
  rw [slab_read _ _ _ _ (by funext a; fin_cases a <;> rfl)]
  obtain ⟨r, l, rfl⟩ : ∃ r l, q = ix2 r l := ⟨q 0, q 1, by pointwise⟩
  have e : ∀ (v : FVec Ideal S384x1536 .bf16), k0_pay131 (F := Ideal) v xs0 (ix2 r l) = ∑ k : Fin 1536, v (ix2 r k) * xs0 (ix2 k l) := by
    intro v
    pointwise [k0_pay131]
  refine (e _).trans (Finset.sum_congr rfl fun k _ => ?_)
  rw [pay130_apply]
  rfl

theorem r2_eq (c : Dev nD) (arg22 : Memref sig .tc .vmem S512x256 .bf16) (harg22 : arg22.IsWhole) (arg29 : Memref sig .tc .vmem S4x256x128 .bf16) (harg29 : arg29.IsWhole)
    (xs1 : Vec Ideal S512x256 .bf16) (xs8 : Vec Ideal S4x256x128 .bf16) :
    runS.sl.r_2 (F := Ideal) c arg22 harg22 arg29 harg29 xs1 xs8 = kT xs8 xs1 := by
  funext q
  unfold runS.sl.r_2
  rw [slab_read _ _ _ _ (by funext a; fin_cases a <;> rfl)]
  obtain ⟨r, l, rfl⟩ : ∃ r l, q = ix2 r l := ⟨q 0, q 1, by pointwise⟩
  have e : ∀ (a0 a1 a2 a3 : Vec Ideal S1x256x128 .bf16) , k0_pay132 (F := Ideal) a0 a1 a2 a3 xs1 (ix2 r l) = ∑ k : Fin 512, (if h : k.val < 128 then a0 (ix3 0 r (fi 128 k.val h)) else if h : k.val - 128 < 128 then a1 (ix3 0 r (fi 128 (k.val - 128) h))
      else if h : k.val - 128 - 128 < 128 then a2 (ix3 0 r (fi 128 (k.val - 128 - 128) h)) else a3 (ix3 0 r (fi 128 (k.val - 128 - 128 - 128) (by omega)))) * xs1 (ix2 k l) := by
    intro a0 a1 a2 a3
    pointwise [k0_pay132]
  refine (e _ _ _ _).trans (Finset.sum_congr rfl fun k _ => congrArg (fun z : EReal => z * _) ?_)
  split_ifs
  all_goals
    refine (Memref.IsWhole.readAt_unread _ _ _ _).trans (congrArg xs8 (ix_ext3 ?_ ?_ ?_)) <;>
      simp [emb_unit_val, fi] <;> omega

theorem pay138_apply (qa : FVec Ideal S192x256 .bf16) (kn : FVec Ideal S256x128 .bf16) (kr : Vec Ideal S256x64 .bf16) (b : Vec Ideal S256x256 .f32) (q : S1x256.Idx) :
    k0_pay138 (F := Ideal) qa kn kr b q = Finset.fold max (Ideal.ofBits FTy.f32 4286578688#32)
        (fun x =>
          ∑ d : Fin 128, kn (ix2 x d) * qa (ix2 (fi 192 d.val (by omega)) (q 1)) + ∑ r : Fin 64, kr (ix2 x r) * qa (ix2 (fi 192 (128 + r.val) (by omega)) (q 1)) +
            b (ix2 x (q 1)))
        Finset.univ * Ideal.ofBits FTy.f32 1033096506#32 := by
  obtain ⟨r, l, rfl⟩ : ∃ r l, q = ix2 r l := ⟨q 0, q 1, by pointwise⟩
  pointwise [k0_pay138]
  try rfl

theorem pay136_apply (v : FVec Ideal S384x256 .f32) (a b e f g w k : Vec Ideal S32x128 .f32) (c : FVec Ideal S32x128 .f32) (r : Fin 192) (l : Fin 256) :
    k0_pay136 (F := Ideal) v a b c e f g w k (ix2 r l) =
     (if h : r.val < 128 then v (ix2 (fi 384 r.val (by omega)) l)
    else
      if h_1 : l.val < 128 then
        if h_2 : r.val - 128 < 32 then
          a (ix2 (fi 32 (r.val - 128) h_2) (fi 128 l.val h_1)) * c (ix2 (fi 32 (r.val - 128) h_2) (fi 128 l.val h_1)) -
            b (ix2 (fi 32 (r.val - 128) h_2) (fi 128 l.val h_1)) * e (ix2 (fi 32 (r.val - 128) h_2) (fi 128 l.val h_1))
        else
          a (ix2 (fi 32 (r.val - 128 - 32) (by omega)) (fi 128 l.val h_1)) * e (ix2 (fi 32 (r.val - 128 - 32) (by omega)) (fi 128 l.val h_1)) +
            b (ix2 (fi 32 (r.val - 128 - 32) (by omega)) (fi 128 l.val h_1)) * c (ix2 (fi 32 (r.val - 128 - 32) (by omega)) (fi 128 l.val h_1))
      else
        if h_2 : r.val - 128 < 32 then
          f (ix2 (fi 32 (r.val - 128) h_2) (fi 128 (l.val - 128) (by omega))) * w (ix2 (fi 32 (r.val - 128) h_2) (fi 128 (l.val - 128) (by omega))) -
            g (ix2 (fi 32 (r.val - 128) h_2) (fi 128 (l.val - 128) (by omega))) * k (ix2 (fi 32 (r.val - 128) h_2) (fi 128 (l.val - 128) (by omega)))
        else
          f (ix2 (fi 32 (r.val - 128 - 32) (by omega)) (fi 128 (l.val - 128) (by omega))) * k (ix2 (fi 32 (r.val - 128 - 32) (by omega)) (fi 128 (l.val - 128) (by omega))) +
            g (ix2 (fi 32 (r.val - 128 - 32) (by omega)) (fi 128 (l.val - 128) (by omega))) * w (ix2 (fi 32 (r.val - 128 - 32) (by omega)) (fi 128 (l.val - 128) (by omega)))) := by
  pointwise [k0_pay136]
  try rfl

theorem sum192 (f : Fin 192 → EReal) : ∑ i, f i = ∑ d : Fin 128, f (fi 192 d.val (by omega)) + ∑ r : Fin 64, f (fi 192 (128 + r.val) (by omega)) :=
  Fin.sum_univ_add (a := 128) (b := 64) f

set_option maxHeartbeats 2000000 in
theorem pay150_apply (v : FVec Ideal S384x256 .f32) (v645 : FVec Ideal S256x256 .f32) (v767: FVec Ideal S64x128 .f32) (e f g w : Vec Ideal S32x128 .f32) (c : Vec Ideal S256x64 .bf16) (d : Vec Ideal S256x256 .f32)
    (rp : Fin 64 → Fin 256 → EReal) (hrp : ∀ (r : Fin 64) (l : Fin 256), (if h_1 : l.val < 128 then v767 (ix2 r (fi 128 l.val h_1))
                else
                  if h_2 : r.val < 32 then
                    e (ix2 (fi 32 r.val h_2) (fi 128 (l.val - 128) (by omega))) * g (ix2 (fi 32 r.val h_2) (fi 128 (l.val - 128) (by omega))) -
                      f (ix2 (fi 32 r.val h_2) (fi 128 (l.val - 128) (by omega))) * w (ix2 (fi 32 r.val h_2) (fi 128 (l.val - 128) (by omega)))
                  else
                    e (ix2 (fi 32 (r.val - 32) (by omega)) (fi 128 (l.val - 128) (by omega))) * w (ix2 (fi 32 (r.val - 32) (by omega)) (fi 128 (l.val - 128) (by omega))) +
                      f (ix2 (fi 32 (r.val - 32) (by omega)) (fi 128 (l.val - 128) (by omega))) * g (ix2 (fi 32 (r.val - 32) (by omega)) (fi 128 (l.val - 128) (by omega)))) = rp r l) (q : S1x256.Idx) :
    k0_pay150 (F := Ideal) v v645 v767 e f g w c d q = Finset.fold max (Ideal.ofBits FTy.f32 4286578688#32)
      (fun x =>
        ∑ i : Fin 128, v645 (ix2 (fi 256 (128 + i.val) (by omega)) x) * v (ix2 (fi 384 (192 + i.val) (by omega)) (q 1))
         + ∑ r : Fin 64, c (ix2 x r) * rp r (q 1) + d (ix2 x (q 1)))
      Finset.univ := by
  obtain ⟨r, l, rfl⟩ : ∃ r l, q = ix2 r l := ⟨q 0, q 1, by pointwise⟩
  pointwise [k0_pay150]
  refine congrArg (fun z : Fin 256 → EReal => Finset.fold max _ z Finset.univ) (funext fun x => congrArg (fun z : EReal => z + _) ?_)
  refine (sum192 _).trans (congrArg₂ (fun a b : EReal => a + b) (Finset.sum_congr rfl fun i _ => ?_) (Finset.sum_congr rfl fun i _ => ?_))
  · have h1 : (fi 192 i.val (by omega) : Fin 192).val < 128 := i.isLt
    rw [dif_pos h1, dif_pos h1]
  · have h1 : ¬ (fi 192 (128 + i.val) (by omega) : Fin 192).val < 128 := by show ¬ 128 + i.val < 128; omega
    have h2 : (fi 192 (128 + i.val) (by omega) : Fin 192).val - 128 = i.val := by show 128 + i.val - 128 = i.val; omega
    rw [dif_neg h1, dif_neg h1, ← hrp i l]
    simp only [h2]

end Cert.KernelIdeal.Stage

end
-- ==== Proof.RowS.lean ====
module

public import proofs.«01_k».proof.Proof.KitS

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem pay133_apply (v : FVec Ideal S384x1536 .bf16) (w : Vec Ideal S1536x256 .bf16) (u : Fin 1) (r : Fin 64) (l : Fin 128) : k0_pay133 (F := Ideal) v w (ix3 u r l) = k0_pay131 (F := Ideal) v w (ix2 (fi 384 (128 + r.val) (by omega)) (fi 256 (0 + l.val) (by omega))) := by
  pointwise [k0_pay133, fi]

theorem pay135_apply (v : FVec Ideal S384x256 .f32) (u : Fin 1) (r : Fin 64) (l : Fin 128) : k0_pay135 (F := Ideal) v (ix3 u r l) = v (ix2 (fi 384 (128 + r.val) (by omega)) (fi 256 (128 + l.val) (by omega))) := by
  pointwise [k0_pay135, fi]

theorem pay146_apply (v : FVec Ideal S384x256 .f32) (u : Fin 1) (r : Fin 64) (l : Fin 128) : k0_pay146 (F := Ideal) v (ix3 u r l) = v (ix2 (fi 384 (320 + r.val) (by omega)) (fi 256 (0 + l.val) (by omega))) := by
  pointwise [k0_pay146, fi]

theorem pay149_apply (v : FVec Ideal S64x128 .f32) (u : Fin 1) (r : Fin 64) (l : Fin 128) : k0_pay149 (F := Ideal) v (ix3 u r l) = v (ix2 r l) := by
  pointwise [k0_pay149, fi]

theorem pay148_apply (v : FVec Ideal S384x256 .f32) (r : Fin 64) (l : Fin 128) : k0_pay148 (F := Ideal) v (ix2 r l) = v (ix2 (fi 384 (320 + r.val) (by omega)) (fi 256 (128 + l.val) (by omega))) := by
  pointwise [k0_pay148, fi]

theorem v653_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![0, 0], S32x128.size, ![2, 1], inb_S64x128_S32x128_0_0_s_2_1⟩ : LoadRect S64x128)) hR (runS.sl.v653 (F := Ideal) c arg21 harg21 arg28 harg28 arg30 xs0 xs7) (ix2 r l)
      = qT xs7 xs0 (ix2 (fi 384 (128 + (2 * r.val + 0)) (by omega)) (fi 256 (0 + l.val) (by omega))) := by
  unfold runS.sl.v653 runS.sl.H30_1
  refine (rope_read _ 1 0 _ _ _ (by decide) _ _ _ _ _ _).trans ?_
  refine (pay133_apply _ _ _ _ _).trans ?_
  have e := congrFun (r1_eq c arg21 harg21 arg28 harg28 xs0 xs7)
  exact e _

theorem v656_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![1, 0], S32x128.size, ![2, 1], inb_S64x128_S32x128_1_0_s_2_1⟩ : LoadRect S64x128)) hR (runS.sl.v656 (F := Ideal) c arg21 harg21 arg28 harg28 arg30 xs0 xs7) (ix2 r l)
      = qT xs7 xs0 (ix2 (fi 384 (128 + (2 * r.val + 1)) (by omega)) (fi 256 (0 + l.val) (by omega))) := by
  unfold runS.sl.v656 runS.sl.H30_1
  refine (rope_read _ 1 1 _ _ _ (by decide) _ _ _ _ _ _).trans ?_
  refine (pay133_apply _ _ _ _ _).trans ?_
  have e := congrFun (r1_eq c arg21 harg21 arg28 harg28 xs0 xs7)
  exact e _

theorem v674_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![0, 0], S32x128.size, ![2, 1], inb_S64x128_S32x128_0_0_s_2_1⟩ : LoadRect S64x128)) hR (runS.sl.v674 (F := Ideal) c arg21 harg21 arg28 harg28 arg30 xs0 xs7) (ix2 r l)
      = qT xs7 xs0 (ix2 (fi 384 (128 + (2 * r.val + 0)) (by omega)) (fi 256 (128 + l.val) (by omega))) := by
  unfold runS.sl.v674 runS.sl.H30_2
  refine (rope_read _ 2 0 _ _ _ (by decide) _ _ _ _ _ _).trans ?_
  refine (pay135_apply _ _ _ _).trans ?_
  rw [r1_eq]
  rfl

theorem v677_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![1, 0], S32x128.size, ![2, 1], inb_S64x128_S32x128_1_0_s_2_1⟩ : LoadRect S64x128)) hR (runS.sl.v677 (F := Ideal) c arg21 harg21 arg28 harg28 arg30 xs0 xs7) (ix2 r l)
      = qT xs7 xs0 (ix2 (fi 384 (128 + (2 * r.val + 1)) (by omega)) (fi 256 (128 + l.val) (by omega))) := by
  unfold runS.sl.v677 runS.sl.H30_2
  refine (rope_read _ 2 1 _ _ _ (by decide) _ _ _ _ _ _).trans ?_
  refine (pay135_apply _ _ _ _).trans ?_
  rw [r1_eq]
  rfl

theorem v753_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![0, 0], S32x128.size, ![2, 1], inb_S64x128_S32x128_0_0_s_2_1⟩ : LoadRect S64x128)) hR (runS.sl.v753 (F := Ideal) c arg21 harg21 arg28 harg28 arg30 xs0 xs7) (ix2 r l)
      = qT xs7 xs0 (ix2 (fi 384 (320 + (2 * r.val + 0)) (by omega)) (fi 256 (0 + l.val) (by omega))) := by
  unfold runS.sl.v753 runS.sl.H30_3
  refine (rope_read _ 3 0 _ _ _ (by decide) _ _ _ _ _ _).trans ?_
  refine (pay146_apply _ _ _ _).trans ?_
  rw [r1_eq]
  rfl

theorem v756_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![1, 0], S32x128.size, ![2, 1], inb_S64x128_S32x128_1_0_s_2_1⟩ : LoadRect S64x128)) hR (runS.sl.v756 (F := Ideal) c arg21 harg21 arg28 harg28 arg30 xs0 xs7) (ix2 r l)
      = qT xs7 xs0 (ix2 (fi 384 (320 + (2 * r.val + 1)) (by omega)) (fi 256 (0 + l.val) (by omega))) := by
  unfold runS.sl.v756 runS.sl.H30_3
  refine (rope_read _ 3 1 _ _ _ (by decide) _ _ _ _ _ _).trans ?_
  refine (pay146_apply _ _ _ _).trans ?_
  rw [r1_eq]
  rfl

theorem v774_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![0, 0], S32x128.size, ![2, 1], inb_S64x128_S32x128_0_0_s_2_1⟩ : LoadRect S64x128)) hR (runS.sl.v774 (F := Ideal) c arg21 harg21 arg28 harg28 arg30 xs0 xs7) (ix2 r l)
      = qT xs7 xs0 (ix2 (fi 384 (320 + (2 * r.val + 0)) (by omega)) (fi 256 (128 + l.val) (by omega))) := by
  unfold runS.sl.v774 runS.sl.H30_4
  refine (rope_read _ 4 0 _ _ _ (by decide) _ _ _ _ _ _).trans ?_
  refine (pay149_apply _ _ _ _).trans ?_
  unfold runS.sl.r_14
  rw [r1_eq]
  exact pay148_apply _ _ _

theorem v777_read (c : Dev nD) (arg21 : Memref sig .tc .vmem S1536x256 .bf16) (harg21 : arg21.IsWhole) (arg28 : Memref sig .tc .vmem S12x384x128 .bf16) (harg28 : arg28.IsWhole)  (arg30 : Memref sig .tc .vmem S5x64x128 .f32) (xs0 : Vec Ideal S1536x256 .bf16) (xs7 : Vec Ideal S12x384x128 .bf16) (hR) (r : Fin 32) (l : Fin 128) :
    LoadRect.valAlong (lr := (⟨![1, 0], S32x128.size, ![2, 1], inb_S64x128_S32x128_1_0_s_2_1⟩ : LoadRect S64x128)) hR (runS.sl.v777 (F := Ideal) c arg21 harg21 arg28 harg28 arg30 xs0 xs7) (ix2 r l)
      = qT xs7 xs0 (ix2 (fi 384 (320 + (2 * r.val + 1)) (by omega)) (fi 256 (128 + l.val) (by omega))) := by
  unfold runS.sl.v777 runS.sl.H30_4
  refine (rope_read _ 4 1 _ _ _ (by decide) _ _ _ _ _ _).trans ?_
  refine (pay149_apply _ _ _ _).trans ?_
  unfold runS.sl.r_14
  rw [r1_eq]
  exact pay148_apply _ _ _

theorem cos0_read (arg8 : Memref sig .tc .vmem S32x256 .f32) (harg8 : arg8.IsWhole) (x7 : Vec Ideal S32x256 .f32) (r : Fin 32) (l : Fin 128) :
    View.readAt (Elt Ideal) arg8.view (Rect.unit (s := S32x256) ![0, 0] S32x128.size inb_S32x256_S32x128_0_0).toLoadRect (harg8.unread x7) (ix2 r l) = x7 (ix2 r (fi 256 (0 + l.val) (by omega))) := by
  refine (Memref.IsWhole.readAt_unread _ _ _ _).trans (congrArg x7 (ix_ext ?_ ?_)) <;> simp [emb_unit_val, fi]

theorem cos128_read (arg8 : Memref sig .tc .vmem S32x256 .f32) (harg8 : arg8.IsWhole) (x7 : Vec Ideal S32x256 .f32) (r : Fin 32) (l : Fin 128) :
    View.readAt (Elt Ideal) arg8.view (Rect.unit (s := S32x256) ![0, 128] S32x128.size inb_S32x256_S32x128_0_128).toLoadRect (harg8.unread x7) (ix2 r l) = x7 (ix2 r (fi 256 (128 + l.val) (by omega))) := by
  refine (Memref.IsWhole.readAt_unread _ _ _ _).trans (congrArg x7 (ix_ext ?_ ?_)) <;> simp [emb_unit_val, fi]

theorem sin0_read (arg9 : Memref sig .tc .vmem S32x256 .f32) (harg9 : arg9.IsWhole) (x8 : Vec Ideal S32x256 .f32) (r : Fin 32) (l : Fin 128) :
    View.readAt (Elt Ideal) arg9.view (Rect.unit (s := S32x256) ![0, 0] S32x128.size inb_S32x256_S32x128_0_0).toLoadRect (harg9.unread x8) (ix2 r l) = x8 (ix2 r (fi 256 (0 + l.val) (by omega))) := by
  refine (Memref.IsWhole.readAt_unread _ _ _ _).trans (congrArg x8 (ix_ext ?_ ?_)) <;> simp [emb_unit_val, fi]

theorem sin128_read (arg9 : Memref sig .tc .vmem S32x256 .f32) (harg9 : arg9.IsWhole) (x8 : Vec Ideal S32x256 .f32) (r : Fin 32) (l : Fin 128) :
    View.readAt (Elt Ideal) arg9.view (Rect.unit (s := S32x256) ![0, 128] S32x128.size inb_S32x256_S32x128_0_128).toLoadRect (harg9.unread x8) (ix2 r l) = x8 (ix2 r (fi 256 (128 + l.val) (by omega))) := by
  refine (Memref.IsWhole.readAt_unread _ _ _ _).trans (congrArg x8 (ix_ext ?_ ?_)) <;> simp [emb_unit_val, fi]

theorem pay134_eq (v : Vec Ideal S32x128 .f32) : k0_pay134 (F := Ideal) v = v := by
  funext q
  pointwise [k0_pay134]

theorem r6_rope (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole)  (arg30 : Memref sig .tc .vmem S5x64x128 .f32) (x7 x8 : Vec Ideal S32x256 .f32) (xs0 : Vec Ideal S1536x256 .bf16) (xs7 : Vec Ideal S12x384x128 .bf16) (r : Fin 64) (l : Fin 256) :
    runS.sl.r_6 (F := Ideal) c arg8 harg8 arg9 harg9 arg21 harg21 arg28 harg28 arg30 x7 x8 xs0 xs7 (ix2 (fi 192 (128 + r.val) (by omega)) l)
      = ropeV 0 (by decide) (qT xs7 xs0) x7 x8 r l := by
  unfold runS.sl.r_6 runS.sl.r_5
  rw [pay136_apply, pay134_eq]
  have h1 : ¬ (fi 192 (128 + r.val) (by omega) : Fin 192).val < 128 := by show ¬ 128 + r.val < 128; omega
  have h2 : (fi 192 (128 + r.val) (by omega) : Fin 192).val - 128 = r.val := by show 128 + r.val - 128 = r.val; omega
  rw [dif_neg h1]
  simp only [h2]
  unfold ropeV runS.sl.r_3 runS.sl.r_4
  refine dite_elim (fun hl => dite_elim (fun hr => ?_) (fun hr => ?_)) (fun hl => dite_elim (fun hr => ?_) (fun hr => ?_))
  · rw [dif_pos hr]
    refine congrArg₂ (fun a b : EReal => a - b) (congrArg₂ (fun a b : EReal => a * b) ((v653_read _ _ _ _ _ _ _ _ _ _ _).trans (congrArg _ (ix_ext ?_ ?_))) ((cos0_read _ _ _ _ _).trans (congrArg _ (ix_ext ?_ ?_)))) (congrArg₂ (fun a b : EReal => a * b) ((v656_read _ _ _ _ _ _ _ _ _ _ _).trans (congrArg _ (ix_ext ?_ ?_))) ((sin0_read _ _ _ _ _).trans (congrArg _ (ix_ext ?_ ?_)))) <;> simp [fi]
  · rw [dif_neg hr]
    refine congrArg₂ (fun a b : EReal => a + b) (congrArg₂ (fun a b : EReal => a * b) ((v653_read _ _ _ _ _ _ _ _ _ _ _).trans (congrArg _ (ix_ext ?_ ?_))) ((sin0_read _ _ _ _ _).trans (congrArg _ (ix_ext ?_ ?_)))) (congrArg₂ (fun a b : EReal => a * b) ((v656_read _ _ _ _ _ _ _ _ _ _ _).trans (congrArg _ (ix_ext ?_ ?_))) ((cos0_read _ _ _ _ _).trans (congrArg _ (ix_ext ?_ ?_)))) <;> simp [fi]
  · rw [dif_pos hr]
    refine congrArg₂ (fun a b : EReal => a - b) (congrArg₂ (fun a b : EReal => a * b) ((v674_read _ _ _ _ _ _ _ _ _ _ _).trans (congrArg _ (ix_ext ?_ ?_))) ((cos128_read _ _ _ _ _).trans (congrArg _ (ix_ext ?_ ?_)))) (congrArg₂ (fun a b : EReal => a * b) ((v677_read _ _ _ _ _ _ _ _ _ _ _).trans (congrArg _ (ix_ext ?_ ?_))) ((sin128_read _ _ _ _ _).trans (congrArg _ (ix_ext ?_ ?_)))) <;> simp [fi] <;> omega
  · rw [dif_neg hr]
    refine congrArg₂ (fun a b : EReal => a + b) (congrArg₂ (fun a b : EReal => a * b) ((v674_read _ _ _ _ _ _ _ _ _ _ _).trans (congrArg _ (ix_ext ?_ ?_))) ((sin128_read _ _ _ _ _).trans (congrArg _ (ix_ext ?_ ?_)))) (congrArg₂ (fun a b : EReal => a * b) ((v677_read _ _ _ _ _ _ _ _ _ _ _).trans (congrArg _ (ix_ext ?_ ?_))) ((cos128_read _ _ _ _ _).trans (congrArg _ (ix_ext ?_ ?_)))) <;> simp [fi] <;> omega

theorem r6_nope (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole)  (arg30 : Memref sig .tc .vmem S5x64x128 .f32) (x7 x8 : Vec Ideal S32x256 .f32) (xs0 : Vec Ideal S1536x256 .bf16) (xs7 : Vec Ideal S12x384x128 .bf16) (d : Fin 128) (l : Fin 256) :
    runS.sl.r_6 (F := Ideal) c arg8 harg8 arg9 harg9 arg21 harg21 arg28 harg28 arg30 x7 x8 xs0 xs7 (ix2 (fi 192 d.val (by omega)) l)
      = qT xs7 xs0 (ix2 (fi 384 (192 * 0 + d.val) (by omega)) l) := by
  unfold runS.sl.r_6
  rw [pay136_apply, r1_eq]
  have h1 : (fi 192 d.val (by omega) : Fin 192).val < 128 := d.isLt
  rw [dif_pos h1]
  refine congrArg _ (ix_ext ?_ ?_) <;> simp [fi]

theorem pay147_apply (a b e f : Vec Ideal S32x128 .f32) (r : Fin 64) (l : Fin 128) :
    k0_pay147 (F := Ideal) a b e f (ix2 r l) = if h : r.val < 32 then a (ix2 (fi 32 r.val h) l) * e (ix2 (fi 32 r.val h) l) - b (ix2 (fi 32 r.val h) l) * f (ix2 (fi 32 r.val h) l)
      else a (ix2 (fi 32 (r.val - 32) (by omega)) l) * f (ix2 (fi 32 (r.val - 32) (by omega)) l) + b (ix2 (fi 32 (r.val - 32) (by omega)) l) * e (ix2 (fi 32 (r.val - 32) (by omega)) l) := by
  pointwise [k0_pay147]
  try rfl

theorem pay137_apply (v : FVec Ideal S256x256 .f32) (x : Fin 256) (d : Fin 128) : k0_pay137 (F := Ideal) v (ix2 x d) = v (ix2 (fi 256 d.val (by omega)) x) := by
  pointwise [k0_pay137]
  try rfl

theorem row0_eq (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg29 : Memref sig .tc .vmem S4x256x128 .bf16) (harg29 : arg29.IsWhole)  (arg30 : Memref sig .tc .vmem S5x64x128 .f32) (x7 x8 : Vec Ideal S32x256 .f32) (xs0 : Vec Ideal S1536x256 .bf16) (xs1 : Vec Ideal S512x256 .bf16) (xs2 : Vec Ideal S256x64 .bf16) (xs3 : Vec Ideal S256x256 .f32) (xs7 : Vec Ideal S12x384x128 .bf16) (xs8 : Vec Ideal S4x256x128 .bf16) (q : S1x256.Idx) :
    k0_pay138 (F := Ideal) (runS.sl.r_6 c arg8 harg8 arg9 harg9 arg21 harg21 arg28 harg28 arg30 x7 x8 xs0 xs7) (runS.sl.r_7 c arg22 harg22 arg29 harg29 xs1 xs8) (runS.sl.r_8 c arg23 harg23 xs2)
      (View.readAt (Elt Ideal) arg24.view (Rect.unit (s := S256x256) ![0, 0] S256x256.size inb_S256x256_S256x256_0_0).toLoadRect (harg24.unread xs3)) q
      = rowV 0 (by decide) (qT xs7 xs0) (kT xs8 xs1) xs2 x7 x8 xs3 (q 1) := by
  refine (pay138_apply _ _ _ _ q).trans ?_
  unfold rowV rawRow runS.sl.r_8
  rw [slab_read _ _ _ _ (by funext a; fin_cases a <;> rfl), slab_read _ _ _ _ (by funext a; fin_cases a <;> rfl)]
  refine congrArg (fun z : EReal => z * _) (congrArg (fun z : Fin 256 → EReal => Finset.fold max _ z Finset.univ) (funext fun x => congrArg (fun z : EReal => z + _)
    (congrArg₂ (fun a b : EReal => a + b) (Finset.sum_congr rfl fun d _ => congrArg₂ (fun a b : EReal => a * b) ?_ (r6_nope _ _ _ _ _ _ _ _ _ _ _ _ _ _ _ _)) (Finset.sum_congr rfl fun r _ => congrArg (fun z : EReal => _ * z) (r6_rope _ _ _ _ _ _ _ _ _ _ _ _ _ _ _ _)))))
  unfold runS.sl.r_7
  rw [r2_eq]
  refine (pay137_apply _ _ _).trans (congrArg _ (ix_ext ?_ ?_)) <;> simp [fi]

theorem row1_eq (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg29 : Memref sig .tc .vmem S4x256x128 .bf16) (harg29 : arg29.IsWhole)  (arg30 : Memref sig .tc .vmem S5x64x128 .f32) (x7 x8 : Vec Ideal S32x256 .f32) (xs0 : Vec Ideal S1536x256 .bf16) (xs1 : Vec Ideal S512x256 .bf16) (xs2 : Vec Ideal S256x64 .bf16) (xs3 : Vec Ideal S256x256 .f32) (xs7 : Vec Ideal S12x384x128 .bf16) (xs8 : Vec Ideal S4x256x128 .bf16) (q : S1x256.Idx) :
    runS.sl.r_15 (F := Ideal) c arg8 harg8 arg9 harg9 arg21 harg21 arg22 harg22 arg23 harg23 arg24 harg24 arg28 harg28 arg29 harg29
      arg30 x7 x8 xs0 xs1 xs2 xs3 xs7 xs8 q
      = rawRow 1 (by decide) (qT xs7 xs0) (kT xs8 xs1) xs2 x7 x8 xs3 (q 1) := by
  unfold runS.sl.r_15
  rw [slab_read _ _ _ _ (by funext a; fin_cases a <;> rfl), slab_read _ _ _ _ (by funext a; fin_cases a <;> rfl), r1_eq, r2_eq]
  refine (pay150_apply _ _ _ _ _ _ _ _ _ (ropeV 1 (by decide) (qT xs7 xs0) x7 x8) ?_ q).trans ?_
  · intro r l
    unfold ropeV runS.sl.r_13
    refine dite_elim (fun hl => ?_) (fun hl => dite_elim (fun hr => ?_) (fun hr => ?_))
    · refine (pay147_apply _ _ _ _ _ _).trans (dite_elim (fun hr => ?_) (fun hr => ?_))
      · rw [dif_pos hr]
        refine congrArg₂ (fun a b : EReal => a - b) (congrArg₂ (fun a b : EReal => a * b) ((v753_read _ _ _ _ _ _ _ _ _ _ _).trans (congrArg _ (ix_ext ?_ ?_))) ((cos0_read _ _ _ _ _).trans (congrArg _ (ix_ext ?_ ?_)))) (congrArg₂ (fun a b : EReal => a * b) ((v756_read _ _ _ _ _ _ _ _ _ _ _).trans (congrArg _ (ix_ext ?_ ?_))) ((sin0_read _ _ _ _ _).trans (congrArg _ (ix_ext ?_ ?_)))) <;> simp [fi]
      · rw [dif_neg hr]
        refine congrArg₂ (fun a b : EReal => a + b) (congrArg₂ (fun a b : EReal => a * b) ((v753_read _ _ _ _ _ _ _ _ _ _ _).trans (congrArg _ (ix_ext ?_ ?_))) ((sin0_read _ _ _ _ _).trans (congrArg _ (ix_ext ?_ ?_)))) (congrArg₂ (fun a b : EReal => a * b) ((v756_read _ _ _ _ _ _ _ _ _ _ _).trans (congrArg _ (ix_ext ?_ ?_))) ((cos0_read _ _ _ _ _).trans (congrArg _ (ix_ext ?_ ?_)))) <;> simp [fi]
    · rw [dif_pos hr]
      refine congrArg₂ (fun a b : EReal => a - b) (congrArg₂ (fun a b : EReal => a * b) ((v774_read _ _ _ _ _ _ _ _ _ _ _).trans (congrArg _ (ix_ext ?_ ?_))) ((cos128_read _ _ _ _ _).trans (congrArg _ (ix_ext ?_ ?_)))) (congrArg₂ (fun a b : EReal => a * b) ((v777_read _ _ _ _ _ _ _ _ _ _ _).trans (congrArg _ (ix_ext ?_ ?_))) ((sin128_read _ _ _ _ _).trans (congrArg _ (ix_ext ?_ ?_)))) <;> simp [fi] <;> omega
    · rw [dif_neg hr]
      refine congrArg₂ (fun a b : EReal => a + b) (congrArg₂ (fun a b : EReal => a * b) ((v774_read _ _ _ _ _ _ _ _ _ _ _).trans (congrArg _ (ix_ext ?_ ?_))) ((sin128_read _ _ _ _ _).trans (congrArg _ (ix_ext ?_ ?_)))) (congrArg₂ (fun a b : EReal => a * b) ((v777_read _ _ _ _ _ _ _ _ _ _ _).trans (congrArg _ (ix_ext ?_ ?_))) ((cos128_read _ _ _ _ _).trans (congrArg _ (ix_ext ?_ ?_)))) <;> simp [fi] <;> omega
  · unfold rawRow
    rfl

end Cert.KernelIdeal.Stage

end
-- ==== Proof.ClosedS.lean ====
module

public import proofs.«01_k».proof.Proof.RowS
public import Idealize.ShloMosaic.Lib.WritesUnit

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block of heads that a grid point works on. -/
def cur (i : grid0.Coords) : Nat := min (i 0).val 47

/-- A row with the lanes of block `b` replaced. -/
def laneUp (b : Nat) (v0 v1 : EReal) (x : Vec Ideal S1x128 .f32) : Vec Ideal S1x128 .f32 := fun y =>
  if (y 1).val = 2 * b + 1 then v1 else if (y 1).val = 2 * b then v0 else x y

/-- The maxima with the two rows of block `b` replaced. -/
def rowsUp (b : Nat) (r0 r1 : Fin 256 → EReal) (x : Vec Ideal S96x256 .f32) : Vec Ideal S96x256 .f32 := fun y =>
  if (y 0).val = 2 * b + 1 then r1 (y 1) else if (y 0).val = 2 * b then r0 (y 1) else x y

/-- The clip scratch with its four used rows replaced. -/
def clipUp (g0 g1 : EReal) (x : Vec Ideal S8x128 .f32) : Vec Ideal S8x128 .f32 := fun y =>
  if (y 0).val = 3 then g1 else if (y 0).val = 2 then Ideal.sqrt g1 else if (y 0).val = 1 then g0 else if (y 0).val = 0 then Ideal.sqrt g0 else x y

theorem word_lane (t : Fin 49) (h : Fin 2) : Scalar.addi (Scalar.muli (Scalar.minsi (BitVec.ofNat 32 t.val) 47#32) 2#32) (BitVec.ofNat 32 h.val) = BitVec.ofNat 32 (2 * min t.val 47 + h.val) := by
  revert t h
  decide +kernel

theorem off1_eq (i : grid0.Coords) (h : Fin 2) : k0_off1 i (BitVec.ofNat 32 h.val) = ![2 * cur i + h.val, 0] := by
  have e := word_lane (i 0) h
  show ![BitVec.toNat (Scalar.indexCast (Scalar.addi (Scalar.muli (Scalar.minsi (BitVec.ofNat 32 (i 0).val) 47#32) 2#32) (BitVec.ofNat 32 h.val))), 0] = _
  rw [e]
  have h0 : (i 0).val < 49 := (i 0).isLt
  have h1 := h.isLt
  have e2 : BitVec.toNat (Scalar.indexCast (BitVec.ofNat 32 (2 * min (i 0).val 47 + h.val))) = 2 * min (i 0).val 47 + h.val := by
    show (2 * min (i 0).val 47 + h.val) % 2 ^ 32 = _
    exact Nat.mod_eq_of_lt (by omega)
  rw [e2]
  rfl

theorem sel_lane (t : Fin 49) (h : Fin 2) (n : Nat) (hn : n < 128) (a b : EReal) :
    Scalar.select (IntOp.cmpi CmpIPredicate.eq (BitVec.ofNat 32 n) (Scalar.addi (Scalar.muli (Scalar.minsi (BitVec.ofNat 32 t.val) 47#32) 2#32) (BitVec.ofNat 32 h.val))) a b
      = if n = 2 * min t.val 47 + h.val then a else b := by
  rw [word_lane]
  have e2 : IntOp.cmpi CmpIPredicate.eq (BitVec.ofNat 32 n) (BitVec.ofNat 32 (2 * min t.val 47 + h.val)) = BitVec.ofBool (BitVec.ofNat 32 n == BitVec.ofNat 32 (2 * min t.val 47 + h.val)) := rfl
  have e3 : (BitVec.ofNat 32 n = BitVec.ofNat 32 (2 * min t.val 47 + h.val)) ↔ n = 2 * min t.val 47 + h.val := by
    have := t.isLt
    have := h.isLt
    rw [← BitVec.toNat_inj, BitVec.toNat_ofNat, BitVec.toNat_ofNat, Nat.mod_eq_of_lt (by omega), Nat.mod_eq_of_lt (by omega)]
  rw [e2]
  by_cases hh : n = 2 * min t.val 47 + h.val
  · have h3 : (BitVec.ofNat 32 n == BitVec.ofNat 32 (2 * min t.val 47 + h.val)) = true := by simpa using e3.mpr hh
    rw [h3, if_pos hh]
    rfl
  · have h3 : (BitVec.ofNat 32 n == BitVec.ofNat 32 (2 * min t.val 47 + h.val)) = false := by
      simp only [beq_eq_false_iff_ne, ne_eq]
      exact fun z => hh (e3.mp z)
    rw [h3, if_neg hh]
    rfl

theorem pay139_apply (qa : FVec Ideal S192x256 .bf16) (kn : FVec Ideal S256x128 .bf16) (kr : Vec Ideal S256x64 .bf16) (b : Vec Ideal S256x256 .f32) (q : S1x1.Idx) :
    k0_pay139 (F := Ideal) qa kn kr b q = smaxV (fun l => k0_pay138 (F := Ideal) qa kn kr b (ix2 0 l)) := by
  unfold smaxV
  pointwise [k0_pay139]
  try rfl

theorem pay140_apply (qa : FVec Ideal S192x256 .bf16) (kn : FVec Ideal S256x128 .bf16) (kr : Vec Ideal S256x64 .bf16) (b : Vec Ideal S256x256 .f32) (t : EReal) (q : S1x1.Idx) :
    k0_pay140 (F := Ideal) qa kn kr b t q = gamV t (k0_pay139 (F := Ideal) qa kn kr b q) := by
  unfold gamV
  pointwise [k0_pay140]
  try rfl

theorem pay153_apply (x : FVec Ideal S1x256 .f32) (q : S1x1.Idx) :
    k0_pay153 (F := Ideal) x (k0_pay151 (F := Ideal)) q = smaxV (fun l => x (ix2 0 l) * Ideal.ofBits FTy.f32 1033096506#32) := by
  unfold smaxV
  pointwise [k0_pay153, k0_pay152, k0_pay151]
  try rfl

theorem pay154_apply (x y : FVec Ideal S1x256 .f32) (t : EReal) (q : S1x1.Idx) :
    k0_pay154 (F := Ideal) x y t q = gamV t (k0_pay153 (F := Ideal) x y q) := by
  unfold gamV
  pointwise [k0_pay154]
  try rfl

theorem pay152_apply (x : FVec Ideal S1x256 .f32) (q : S1x256.Idx) :
    k0_pay152 (F := Ideal) x (k0_pay151 (F := Ideal)) q = x q * Ideal.ofBits FTy.f32 1033096506#32 := by
  pointwise [k0_pay152, k0_pay151]

theorem pay142_apply (i : grid0.Coords) (qa : FVec Ideal S192x256 .bf16) (kn : FVec Ideal S256x128 .bf16) (kr : Vec Ideal S256x64 .bf16) (b : Vec Ideal S256x256 .f32) (w : Vec Ideal S1x128 .f32) (q : S1x128.Idx) :
    k0_pay142 (F := Ideal) (BitVec.ofNat 32 (i 0).val) runS.sl.v646 qa kn kr b w q = if (q 1).val = 2 * cur i + 0 then k0_pay139 (F := Ideal) qa kn kr b (ix2 0 0) else w q := by
  refine Eq.trans ?_ (sel_lane (i 0) 0 (q 1).val (q 1).isLt _ _)
  pointwise [k0_pay142, runS.sl.v646]
  try rfl

theorem pay143_apply (i : grid0.Coords) (qa : FVec Ideal S192x256 .bf16) (kn : FVec Ideal S256x128 .bf16) (kr : Vec Ideal S256x64 .bf16) (b : Vec Ideal S256x256 .f32) (t : EReal) (w : Vec Ideal S1x128 .f32) (q : S1x128.Idx) :
    k0_pay143 (F := Ideal) (BitVec.ofNat 32 (i 0).val) runS.sl.v646 qa kn kr b t w q = if (q 1).val = 2 * cur i + 0 then k0_pay140 (F := Ideal) qa kn kr b t (ix2 0 0) else w q := by
  refine Eq.trans ?_ (sel_lane (i 0) 0 (q 1).val (q 1).isLt _ _)
  pointwise [k0_pay143, runS.sl.v646]
  try rfl

theorem pay155_apply (i : grid0.Coords) (x y : FVec Ideal S1x256 .f32) (w : Vec Ideal S1x128 .f32) (q : S1x128.Idx) :
    k0_pay155 (F := Ideal) (BitVec.ofNat 32 (i 0).val) runS.sl.v646 x y w q = if (q 1).val = 2 * cur i + 1 then k0_pay153 (F := Ideal) x y (ix2 0 0) else w q := by
  refine Eq.trans ?_ (sel_lane (i 0) 1 (q 1).val (q 1).isLt _ _)
  pointwise [k0_pay155, runS.sl.v646]
  try rfl

theorem pay156_apply (i : grid0.Coords) (x y : FVec Ideal S1x256 .f32) (t : EReal) (w : Vec Ideal S1x128 .f32) (q : S1x128.Idx) :
    k0_pay156 (F := Ideal) (BitVec.ofNat 32 (i 0).val) runS.sl.v646 x y t w q = if (q 1).val = 2 * cur i + 1 then k0_pay154 (F := Ideal) x y t (ix2 0 0) else w q := by
  refine Eq.trans ?_ (sel_lane (i 0) 1 (q 1).val (q 1).isLt _ _)
  pointwise [k0_pay156, runS.sl.v646]
  try rfl

theorem pay144_apply (x : FVec Ideal S1x1 .f32) (q : S1x128.Idx) : k0_pay144 (F := Ideal) x q = x (ix2 0 0) := by
  pointwise [k0_pay144]

theorem pay145_apply (x : FVec Ideal S1x1 .f32) (q : S1x128.Idx) : k0_pay145 (F := Ideal) x q = x (ix2 0 0) := by
  pointwise [k0_pay145]

theorem pay1_apply (x : FVec Ideal S1x1 .f32) (q : S1x128.Idx) : k0_pay1 (F := Ideal) x q = x (ix2 0 0) := by
  pointwise [k0_pay1]

theorem pay141_apply (qa : FVec Ideal S192x256 .bf16) (kn : FVec Ideal S256x128 .bf16) (kr : Vec Ideal S256x64 .bf16) (b : Vec Ideal S256x256 .f32) (t : EReal) (q : S1x1.Idx) :
    k0_pay141 (F := Ideal) qa kn kr b t q = Ideal.sqrt (k0_pay140 (F := Ideal) qa kn kr b t q) := by
  pointwise [k0_pay141]

theorem pay157_apply (x y : FVec Ideal S1x256 .f32) (t : EReal) (q : S1x128.Idx) :
    k0_pay157 (F := Ideal) x y t q = Ideal.sqrt (k0_pay154 (F := Ideal) x y t (ix2 0 0)) := by
  pointwise [k0_pay157]

theorem pay158_apply (x y : FVec Ideal S1x256 .f32) (t : EReal) (q : S1x1.Idx) :
    k0_pay158 (F := Ideal) x y t q = k0_pay154 (F := Ideal) x y t q := by
  pointwise [k0_pay158]
  try rfl

theorem smax0_eq (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg29 : Memref sig .tc .vmem S4x256x128 .bf16) (harg29 : arg29.IsWhole)  (arg30 : Memref sig .tc .vmem S5x64x128 .f32) (x7 x8 : Vec Ideal S32x256 .f32) (xs0 : Vec Ideal S1536x256 .bf16) (xs1 : Vec Ideal S512x256 .bf16) (xs2 : Vec Ideal S256x64 .bf16) (xs3 : Vec Ideal S256x256 .f32) (xs7 : Vec Ideal S12x384x128 .bf16) (xs8 : Vec Ideal S4x256x128 .bf16) (q : S1x1.Idx) : k0_pay139 (F := Ideal) (runS.sl.r_6 (F := Ideal) c arg8 harg8 arg9 harg9 arg21 harg21 arg28 harg28 arg30 x7 x8 xs0 xs7) (runS.sl.r_7 (F := Ideal) c arg22 harg22 arg29 harg29 xs1 xs8) (runS.sl.r_8 (F := Ideal) c arg23 harg23 xs2) (View.readAt (Elt Ideal) arg24.view (Rect.unit (s := S256x256) ![0, 0] S256x256.size inb_S256x256_S256x256_0_0).toLoadRect (harg24.unread xs3)) q = smaxV (rowV 0 (by decide) (qT xs7 xs0) (kT xs8 xs1) xs2 x7 x8 xs3) := by
  refine (pay139_apply _ _ _ _ q).trans (congrArg smaxV (funext fun l => ?_))
  exact row0_eq c arg8 harg8 arg9 harg9 arg21 harg21 arg28 harg28 arg22 harg22 arg23 harg23 arg24 harg24 arg29 harg29 arg30 x7 x8 xs0 xs1 xs2 xs3 xs7 xs8 (ix2 0 l)

theorem smax1_eq (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg29 : Memref sig .tc .vmem S4x256x128 .bf16) (harg29 : arg29.IsWhole)  (arg30 : Memref sig .tc .vmem S5x64x128 .f32) (x7 x8 : Vec Ideal S32x256 .f32) (xs0 : Vec Ideal S1536x256 .bf16) (xs1 : Vec Ideal S512x256 .bf16) (xs2 : Vec Ideal S256x64 .bf16) (xs3 : Vec Ideal S256x256 .f32) (xs7 : Vec Ideal S12x384x128 .bf16) (xs8 : Vec Ideal S4x256x128 .bf16) (q : S1x1.Idx) : k0_pay153 (F := Ideal) (runS.sl.r_15 (F := Ideal) c arg8 harg8 arg9 harg9 arg21 harg21 arg22 harg22 arg23 harg23 arg24 harg24 arg28 harg28 arg29 harg29 arg30 x7 x8 xs0 xs1 xs2 xs3 xs7 xs8) (k0_pay151 (F := Ideal)) q = smaxV (rowV 1 (by decide) (qT xs7 xs0) (kT xs8 xs1) xs2 x7 x8 xs3) := by
  refine (pay153_apply _ q).trans (congrArg smaxV (funext fun l => ?_))
  have e := (row1_eq c arg8 harg8 arg9 harg9 arg21 harg21 arg28 harg28 arg22 harg22 arg23 harg23 arg24 harg24 arg29 harg29 arg30 x7 x8 xs0 xs1 xs2 xs3 xs7 xs8 (ix2 0 l))
  rw [e]
  rfl

theorem gam0_eq (t : EReal) (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg29 : Memref sig .tc .vmem S4x256x128 .bf16) (harg29 : arg29.IsWhole)  (arg30 : Memref sig .tc .vmem S5x64x128 .f32) (x7 x8 : Vec Ideal S32x256 .f32) (xs0 : Vec Ideal S1536x256 .bf16) (xs1 : Vec Ideal S512x256 .bf16) (xs2 : Vec Ideal S256x64 .bf16) (xs3 : Vec Ideal S256x256 .f32) (xs7 : Vec Ideal S12x384x128 .bf16) (xs8 : Vec Ideal S4x256x128 .bf16) (q : S1x1.Idx) : k0_pay140 (F := Ideal) (runS.sl.r_6 (F := Ideal) c arg8 harg8 arg9 harg9 arg21 harg21 arg28 harg28 arg30 x7 x8 xs0 xs7) (runS.sl.r_7 (F := Ideal) c arg22 harg22 arg29 harg29 xs1 xs8) (runS.sl.r_8 (F := Ideal) c arg23 harg23 xs2) (View.readAt (Elt Ideal) arg24.view (Rect.unit (s := S256x256) ![0, 0] S256x256.size inb_S256x256_S256x256_0_0).toLoadRect (harg24.unread xs3)) t q = gamV t (smaxV (rowV 0 (by decide) (qT xs7 xs0) (kT xs8 xs1) xs2 x7 x8 xs3)) :=
  (pay140_apply _ _ _ _ _ q).trans (congrArg (gamV t) (smax0_eq c arg8 harg8 arg9 harg9 arg21 harg21 arg28 harg28 arg22 harg22 arg23 harg23 arg24 harg24 arg29 harg29 arg30 x7 x8 xs0 xs1 xs2 xs3 xs7 xs8 q))

theorem gam1_eq (t : EReal) (c : Dev nD) (arg8 : Memref sig .tc .vmem S32x256 .f32) (harg8 : arg8.IsWhole) (arg9 : Memref sig .tc .vmem S32x256 .f32) (harg9 : arg9.IsWhole) (arg21 : Memref sig .tc .vmem S1536x256 .bf16) (harg21 : arg21.IsWhole) (arg28 : Memref sig .tc .vmem S12x384x128 .bf16) (harg28 : arg28.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg29 : Memref sig .tc .vmem S4x256x128 .bf16) (harg29 : arg29.IsWhole)  (arg30 : Memref sig .tc .vmem S5x64x128 .f32) (x7 x8 : Vec Ideal S32x256 .f32) (xs0 : Vec Ideal S1536x256 .bf16) (xs1 : Vec Ideal S512x256 .bf16) (xs2 : Vec Ideal S256x64 .bf16) (xs3 : Vec Ideal S256x256 .f32) (xs7 : Vec Ideal S12x384x128 .bf16) (xs8 : Vec Ideal S4x256x128 .bf16) (q : S1x1.Idx) : k0_pay154 (F := Ideal) (runS.sl.r_15 (F := Ideal) c arg8 harg8 arg9 harg9 arg21 harg21 arg22 harg22 arg23 harg23 arg24 harg24 arg28 harg28 arg29 harg29 arg30 x7 x8 xs0 xs1 xs2 xs3 xs7 xs8) (k0_pay151 (F := Ideal)) t q = gamV t (smaxV (rowV 1 (by decide) (qT xs7 xs0) (kT xs8 xs1) xs2 x7 x8 xs3)) :=
  (pay154_apply _ _ _ q).trans (congrArg (gamV t) (smax1_eq c arg8 harg8 arg9 harg9 arg21 harg21 arg28 harg28 arg22 harg22 arg23 harg23 arg24 harg24 arg29 harg29 arg30 x7 x8 xs0 xs1 xs2 xs3 xs7 xs8 q))

theorem r9_eq (c : Dev nD) (arg2 : Memref sig .tc .smem S1 .f32) (harg2 : arg2.IsWhole) (x1 : Vec Ideal S1 .f32) : runS.sl.r_9 (F := Ideal) c arg2 harg2 x1 = x1 (ix1 0) :=
  (Memref.IsWhole.readAt_unread _ _ _ _).trans (congrArg x1 (funext fun k => match k with | ⟨0, _⟩ => rfl))

theorem whole128 (v : View sig .tc .vmem S1x128 .f32) (p : FVec Ideal S1x128 .f32) (L : List (View.Piece (Elt Ideal) S1x128 .f32)) (q : S1x128.Idx) :
    View.canon (Val := Elt Ideal) ((⟨Rect.unit (s := S1x128) ![0, 0] S1x128.size inb_S1x128_S1x128_0_0, p⟩ : View.Piece (Elt Ideal) S1x128 .f32) :: L) q = p q := by
  refine (congrArg (View.canon _) (ix_ext (b := (Rect.unit (s := S1x128) ![0, 0] S1x128.size inb_S1x128_S1x128_0_0).emb q) ?_ ?_)).trans (View.canon_cons_emb _ _ _ _) <;> simp [emb_unit_val]

theorem canon_S16 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x1 : Vec Ideal S1 .f32) (x7 : Vec Ideal S32x256 .f32) (x8 : Vec Ideal S32x256 .f32) (x15 : Vec Ideal S1x128 .f32) (x16 : Vec Ideal S1x128 .f32) (x17 : Vec Ideal S96x256 .f32) (xs0 : Vec Ideal S1536x256 .bf16) (xs1 : Vec Ideal S512x256 .bf16) (xs2 : Vec Ideal S256x64 .bf16) (xs3 : Vec Ideal S256x256 .f32) (xs6 : Vec Ideal S8x128 .f32) (xs7 : Vec Ideal S12x384x128 .bf16) (xs8 : Vec Ideal S4x256x128 .bf16) : View.canon (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 xs7 xs8).1 = laneUp (cur i) (smaxV (rowV 0 (by decide) (qT xs7 xs0) (kT xs8 xs1) xs2 x7 x8 xs3)) (smaxV (rowV 1 (by decide) (qT xs7 xs0) (kT xs8 xs1) xs2 x7 x8 xs3)) x15 := by
  funext q
  unfold runS
  dsimp only
  refine (whole128 arg16.view _ _ q).trans ((pay155_apply i _ _ _ q).trans ?_)
  unfold laneUp
  refine if_congr Iff.rfl (smax1_eq c arg8 harg8 arg9 harg9 arg21 harg21 arg28 harg28 arg22 harg22 arg23 harg23 arg24 harg24 arg29 harg29 arg30 x7 x8 xs0 xs1 xs2 xs3 xs7 xs8 _) ?_
  unfold runS.sl.v823 runS.sl.H16_1
  rw [View.readCov_eq_canon']
  refine (congrArg (View.canon _) (ix_ext (b := q) ?_ ?_)).trans ?_
  · simp
  · simp
  refine (whole128 arg16.view _ _ q).trans ?_
  skip
  refine (pay142_apply i _ _ _ _ _ q).trans (if_congr Iff.rfl (smax0_eq c arg8 harg8 arg9 harg9 arg21 harg21 arg28 harg28 arg22 harg22 arg23 harg23 arg24 harg24 arg29 harg29 arg30 x7 x8 xs0 xs1 xs2 xs3 xs7 xs8 _) ?_)
  exact congrFun (slab_read (s := S1x128) arg16 harg16 x15 ![0, 0] (by funext a; fin_cases a <;> rfl) _) q

theorem canon_S17 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x1 : Vec Ideal S1 .f32) (x7 : Vec Ideal S32x256 .f32) (x8 : Vec Ideal S32x256 .f32) (x15 : Vec Ideal S1x128 .f32) (x16 : Vec Ideal S1x128 .f32) (x17 : Vec Ideal S96x256 .f32) (xs0 : Vec Ideal S1536x256 .bf16) (xs1 : Vec Ideal S512x256 .bf16) (xs2 : Vec Ideal S256x64 .bf16) (xs3 : Vec Ideal S256x256 .f32) (xs6 : Vec Ideal S8x128 .f32) (xs7 : Vec Ideal S12x384x128 .bf16) (xs8 : Vec Ideal S4x256x128 .bf16) : View.canon (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 xs7 xs8).2.1 = laneUp (cur i) (gamV (x1 (ix1 0)) (smaxV (rowV 0 (by decide) (qT xs7 xs0) (kT xs8 xs1) xs2 x7 x8 xs3))) (gamV (x1 (ix1 0)) (smaxV (rowV 1 (by decide) (qT xs7 xs0) (kT xs8 xs1) xs2 x7 x8 xs3))) x16 := by
  funext q
  unfold runS
  dsimp only
  refine (whole128 arg17.view _ _ q).trans ((pay156_apply i _ _ _ _ q).trans ?_)
  unfold laneUp
  refine if_congr Iff.rfl ((gam1_eq (runS.sl.r_9 (F := Ideal) c arg2 harg2 x1) c arg8 harg8 arg9 harg9 arg21 harg21 arg28 harg28 arg22 harg22 arg23 harg23 arg24 harg24 arg29 harg29 arg30 x7 x8 xs0 xs1 xs2 xs3 xs7 xs8 _).trans (congrArg (fun z => gamV z _) (r9_eq _ _ _ _))) ?_
  unfold runS.sl.v831 runS.sl.H17_1
  rw [View.readCov_eq_canon']
  refine (congrArg (View.canon _) (ix_ext (b := q) ?_ ?_)).trans ?_
  · simp
  · simp
  refine (whole128 arg17.view _ _ q).trans ?_
  unfold runS.sl.r_12
  refine (pay143_apply i _ _ _ _ _ _ q).trans (if_congr Iff.rfl ((gam0_eq (runS.sl.r_9 (F := Ideal) c arg2 harg2 x1) c arg8 harg8 arg9 harg9 arg21 harg21 arg28 harg28 arg22 harg22 arg23 harg23 arg24 harg24 arg29 harg29 arg30 x7 x8 xs0 xs1 xs2 xs3 xs7 xs8 _).trans (congrArg (fun z => gamV z _) (r9_eq _ _ _ _))) ?_)
  exact congrFun (slab_read (s := S1x128) arg17 harg17 x16 ![0, 0] (by funext a; fin_cases a <;> rfl) _) q

theorem read_S18 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x1 : Vec Ideal S1 .f32) (x7 : Vec Ideal S32x256 .f32) (x8 : Vec Ideal S32x256 .f32) (x15 : Vec Ideal S1x128 .f32) (x16 : Vec Ideal S1x128 .f32) (x17 : Vec Ideal S96x256 .f32) (xs0 : Vec Ideal S1536x256 .bf16) (xs1 : Vec Ideal S512x256 .bf16) (xs2 : Vec Ideal S256x64 .bf16) (xs3 : Vec Ideal S256x256 .f32) (xs6 : Vec Ideal S8x128 .f32) (xs7 : Vec Ideal S12x384x128 .bf16) (xs8 : Vec Ideal S4x256x128 .bf16) (f : arg18.view.ty.Contents (Elt Ideal)) : arg18.view.read (Elt Ideal) (arg18.view.writes (Elt Ideal) f (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 xs7 xs8).2.2.1) = rowsUp (cur i) (rowV 0 (by decide) (qT xs7 xs0) (kT xs8 xs1) xs2 x7 x8 xs3) (rowV 1 (by decide) (qT xs7 xs0) (kT xs8 xs1) xs2 x7 x8 xs3) (arg18.view.read (Elt Ideal) f) := by
  funext q
  unfold runS
  dsimp only
  unfold rowsUp
  have e1 : ∀ z : S1x256.Idx, z 1 = q 1 → k0_pay152 (F := Ideal) (runS.sl.r_15 (F := Ideal) c arg8 harg8 arg9 harg9 arg21 harg21 arg22 harg22 arg23 harg23 arg24 harg24 arg28 harg28 arg29 harg29 arg30 x7 x8 xs0 xs1 xs2 xs3 xs7 xs8) (k0_pay151 (F := Ideal)) z = (rowV 1 (by decide) (qT xs7 xs0) (kT xs8 xs1) xs2 x7 x8 xs3) (q 1) := fun z hz => by
    refine (pay152_apply _ _).trans ?_
    unfold rowV
    rw [row1_eq, hz]
  have e0 : ∀ z : S1x256.Idx, z 1 = q 1 → k0_pay138 (F := Ideal) (runS.sl.r_6 (F := Ideal) c arg8 harg8 arg9 harg9 arg21 harg21 arg28 harg28 arg30 x7 x8 xs0 xs7) (runS.sl.r_7 (F := Ideal) c arg22 harg22 arg29 harg29 xs1 xs8) (runS.sl.r_8 (F := Ideal) c arg23 harg23 xs2) (View.readAt (Elt Ideal) arg24.view (Rect.unit (s := S256x256) ![0, 0] S256x256.size inb_S256x256_S256x256_0_0).toLoadRect (harg24.unread xs3)) z = (rowV 0 (by decide) (qT xs7 xs0) (kT xs8 xs1) xs2 x7 x8 xs3) (q 1) := fun z hz => by
    refine (row0_eq c arg8 harg8 arg9 harg9 arg21 harg21 arg28 harg28 arg22 harg22 arg23 harg23 arg24 harg24 arg29 harg29 arg30 x7 x8 xs0 xs1 xs2 xs3 xs7 xs8 z).trans ?_
    rw [hz]
  refine (View.read_writes_cons_rows (d := ![96, 256]) (size := ![1, 256]) (W := 1) (o := 2 * cur i + 1) _ _ _ _ _ _ (off1_eq i 1) rfl rfl).trans (dite_elim (fun hy => ?_) (fun hy =>
    (View.read_writes_cons_rows (d := ![96, 256]) (size := ![1, 256]) (W := 1) (o := 2 * cur i + 0) _ _ _ _ _ _ (off1_eq i 0) rfl rfl).trans (dite_elim (fun hz => ?_) (fun hz => ?_))))
  · rw [if_pos (by omega)]
    exact e1 _ (Fin.ext rfl)
  · rw [if_neg (by omega), if_pos (by omega)]
    exact e0 _ (Fin.ext rfl)
  · rw [if_neg (by omega), if_neg (by omega), View.writes_nil]

theorem read_S27 (c : Dev nD) (i : grid0.Coords) (arg1 : Memref sig .tc .smem S3 .i32) (harg1 : arg1.IsWhole) (arg2 : Memref sig .tc .smem S1 .f32) (harg2 : arg2.IsWhole) (arg3 : Memref sig .tc .vmem S256x1536 .fp8e4m3) (harg3 : arg3.IsWhole) (arg4 : Memref sig .tc .vmem S12x256 .f32) (harg4 : arg4.IsWhole) (arg5 : Memref sig .tc .vmem S256x512 .fp8e4m3) (harg5 : arg5.IsWhole) (arg6 : Memref sig .tc .vmem S4x256 .f32) (harg6 : arg6.IsWhole) (arg7 : Memref sig .tc .vmem S64x256 .bf16) (harg7 : arg7.IsWhole) (arg8 : Memref sig .tc .vmem S32x256 .f32) (harg8 : arg8.IsWhole) (arg9 : Memref sig .tc .vmem S32x256 .f32) (harg9 : arg9.IsWhole) (arg10 : Memref sig .tc .vmem S384x1536 .bf16) (harg10 : arg10.IsWhole) (arg11 : Memref sig .tc .vmem S256x512 .bf16) (harg11 : arg11.IsWhole) (arg12 : Memref sig .tc .vmem S384x1536 .fp8e4m3) (harg12 : arg12.IsWhole) (arg13 : Memref sig .tc .vmem S48x384 .i8) (harg13 : arg13.IsWhole) (arg14 : Memref sig .tc .vmem S256x512 .fp8e4m3) (harg14 : arg14.IsWhole) (arg15 : Memref sig .tc .vmem S16x256 .i8) (harg15 : arg15.IsWhole) (arg16 : Memref sig .tc .vmem S1x128 .f32) (harg16 : arg16.IsWhole) (arg17 : Memref sig .tc .vmem S1x128 .f32) (harg17 : arg17.IsWhole) (arg18 : Memref sig .tc .vmem S96x256 .f32) (harg18 : arg18.IsWhole) (arg19 : Memref sig .tc .vmem S384x1536 .bf16) (harg19 : arg19.IsWhole) (arg20 : Memref sig .tc .vmem S256x512 .bf16) (harg20 : arg20.IsWhole) (arg21 : Memref sig .tc .vmem S1536x256 .bf16) (harg21 : arg21.IsWhole) (arg22 : Memref sig .tc .vmem S512x256 .bf16) (harg22 : arg22.IsWhole) (arg23 : Memref sig .tc .vmem S256x64 .bf16) (harg23 : arg23.IsWhole) (arg24 : Memref sig .tc .vmem S256x256 .f32) (harg24 : arg24.IsWhole) (arg25 : Memref sig .tc .vmem S48x1536 .bf16) (harg25 : arg25.IsWhole) (arg26 : Memref sig .tc .vmem S16x512 .bf16) (harg26 : arg26.IsWhole) (arg27 : Memref sig .tc .vmem S8x128 .f32) (harg27 : arg27.IsWhole) (arg28 : Memref sig .tc .vmem S12x384x128 .bf16) (harg28 : arg28.IsWhole) (arg29 : Memref sig .tc .vmem S4x256x128 .bf16) (harg29 : arg29.IsWhole) (arg30 : Memref sig .tc .vmem S5x64x128 .f32) (harg30 : arg30.IsWhole)  (x1 : Vec Ideal S1 .f32) (x7 : Vec Ideal S32x256 .f32) (x8 : Vec Ideal S32x256 .f32) (x15 : Vec Ideal S1x128 .f32) (x16 : Vec Ideal S1x128 .f32) (x17 : Vec Ideal S96x256 .f32) (xs0 : Vec Ideal S1536x256 .bf16) (xs1 : Vec Ideal S512x256 .bf16) (xs2 : Vec Ideal S256x64 .bf16) (xs3 : Vec Ideal S256x256 .f32) (xs6 : Vec Ideal S8x128 .f32) (xs7 : Vec Ideal S12x384x128 .bf16) (xs8 : Vec Ideal S4x256x128 .bf16) (f : arg27.view.ty.Contents (Elt Ideal)) : arg27.view.read (Elt Ideal) (arg27.view.writes (Elt Ideal) f (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 xs7 xs8).2.2.2.1) = clipUp (gamV (x1 (ix1 0)) (smaxV (rowV 0 (by decide) (qT xs7 xs0) (kT xs8 xs1) xs2 x7 x8 xs3))) (gamV (x1 (ix1 0)) (smaxV (rowV 1 (by decide) (qT xs7 xs0) (kT xs8 xs1) xs2 x7 x8 xs3))) (arg27.view.read (Elt Ideal) f) := by
  funext q
  unfold runS
  dsimp only
  unfold clipUp runS.sl.r_16 runS.sl.r_10 runS.sl.r_11
  refine (View.read_writes_cons_rows (d := ![8, 128]) (size := ![1, 128]) (W := 1) (o := 3) _ _ _ _ _ _ rfl rfl rfl).trans (dite_elim (fun h3 => ?_) (fun h3 => (View.read_writes_cons_rows (d := ![8, 128]) (size := ![1, 128]) (W := 1) (o := 2) _ _ _ _ _ _ rfl rfl rfl).trans (dite_elim (fun h2 => ?_) (fun h2 => (View.read_writes_cons_rows (d := ![8, 128]) (size := ![1, 128]) (W := 1) (o := 1) _ _ _ _ _ _ rfl rfl rfl).trans (dite_elim (fun h1 => ?_) (fun h1 => (View.read_writes_cons_rows (d := ![8, 128]) (size := ![1, 128]) (W := 1) (o := 0) _ _ _ _ _ _ rfl rfl rfl).trans (dite_elim (fun h0 => ?_) (fun h0 => ?_))))))))
  · rw [if_pos (by omega)]
    refine (pay1_apply _ _).trans ((pay158_apply _ _ _ _).trans ((gam1_eq _ c arg8 harg8 arg9 harg9 arg21 harg21 arg28 harg28 arg22 harg22 arg23 harg23 arg24 harg24 arg29 harg29 arg30 x7 x8 xs0 xs1 xs2 xs3 xs7 xs8 _).trans ?_))
    rw [r9_eq]
  · rw [if_neg (by omega), if_pos (by omega)]
    refine (pay157_apply _ _ _ _).trans (congrArg Ideal.sqrt ((gam1_eq _ c arg8 harg8 arg9 harg9 arg21 harg21 arg28 harg28 arg22 harg22 arg23 harg23 arg24 harg24 arg29 harg29 arg30 x7 x8 xs0 xs1 xs2 xs3 xs7 xs8 _).trans ?_))
    rw [r9_eq]
  · rw [if_neg (by omega), if_neg (by omega), if_pos (by omega)]
    refine (pay145_apply _ _).trans ((gam0_eq _ c arg8 harg8 arg9 harg9 arg21 harg21 arg28 harg28 arg22 harg22 arg23 harg23 arg24 harg24 arg29 harg29 arg30 x7 x8 xs0 xs1 xs2 xs3 xs7 xs8 _).trans ?_)
    rw [r9_eq]
  · rw [if_neg (by omega), if_neg (by omega), if_neg (by omega), if_pos (by omega)]
    refine (pay144_apply _ _).trans ((pay141_apply _ _ _ _ _ _).trans (congrArg Ideal.sqrt ((gam0_eq _ c arg8 harg8 arg9 harg9 arg21 harg21 arg28 harg28 arg22 harg22 arg23 harg23 arg24 harg24 arg29 harg29 arg30 x7 x8 xs0 xs1 xs2 xs3 xs7 xs8 _).trans ?_)))
    rw [r9_eq]
  · rw [if_neg (by omega), if_neg (by omega), if_neg (by omega), if_neg (by omega), View.writes_nil]

end Cert.KernelIdeal.Stage

end
-- ==== Proof.Body.lean ====
/- The body of one grid point, its stages put together and every buffer it leaves named. -/
module

public import proofs.«01_k».proof.Proof.ClosedI
public import proofs.«01_k».proof.Proof.ClosedR
public import proofs.«01_k».proof.Proof.ClosedD
public import proofs.«01_k».proof.Proof.ClosedS

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- Stores that reach every index of a buffer leave it at what they write, whatever it held. -/
theorem owns_covered {sp : Space} {s : Shape} {e : EltTy} (c : Dev nD) (arg : Memref sig .tc sp s e) (L : List (View.Piece (Elt Ideal) s e)) (X : Vec Ideal s e)
    (f : arg.view.ty.Contents (Elt Ideal)) (hc : ∀ y, ∃ p ∈ L, y ∈ p.1.set) (hX : View.canon L = X) :
    (iprop(arg.view.loc (c : Thread nD τ) ↦[arg.view.set]{fullShare} arg.view.writes (Elt Ideal) f L) : sProp 𝕄) ⊢ owns (c : Thread nD τ) arg fullShare X := by
  unfold owns
  iintro H
  iexists _; isplitr
  swap; · iexact H
  ipureintro
  exact (View.read_writes_eq_canon _ _ _ hc).trans hX

/-- Stores over named contents leave the buffer at what reading them back gives. -/
theorem owns_read {sp : Space} {s : Shape} {e : EltTy} (c : Dev nD) (arg : Memref sig .tc sp s e) (L : List (View.Piece (Elt Ideal) s e)) (X : Vec Ideal s e)
    (f : arg.view.ty.Contents (Elt Ideal)) (hX : arg.view.read (Elt Ideal) (arg.view.writes (Elt Ideal) f L) = X) :
    (iprop(arg.view.loc (c : Thread nD τ) ↦[arg.view.set]{fullShare} arg.view.writes (Elt Ideal) f L) : sProp 𝕄) ⊢ owns (c : Thread nD τ) arg fullShare X := by
  unfold owns
  iintro H
  iexists _; isplitr
  swap; · iexact H
  ipureintro
  exact hX

/-- The queries of a block before the rotation, transposed. -/
def qB (x11 : Vec Ideal S384x1536 .fp8e4m3) (x12 : Vec Ideal S48x384 .i8) (xs0 : Vec Ideal S1536x256 .bf16) (xs4 : Vec Ideal S48x1536 .bf16) : FVec Ideal S384x256 .f32 :=
  qT (deqQ x11 x12 xs4) xs0

/-- The keys of a block before the rotary part, transposed. -/
def kB (x13 : Vec Ideal S256x512 .fp8e4m3) (x14 : Vec Ideal S16x256 .i8) (xs1 : Vec Ideal S512x256 .bf16) (xs5 : Vec Ideal S16x512 .bf16) : FVec Ideal S256x256 .f32 :=
  kT (deqK x13 x14 xs5) xs1

variable (c : Dev nD) (i : grid0.Coords)
variable (arg1 : Memref sig .tc .smem S3 .i32) (harg1 : arg1.IsWhole)
variable (arg2 : Memref sig .tc .smem S1 .f32) (harg2 : arg2.IsWhole)
variable (arg3 : Memref sig .tc .vmem S256x1536 .fp8e4m3) (harg3 : arg3.IsWhole)
variable (arg4 : Memref sig .tc .vmem S12x256 .f32) (harg4 : arg4.IsWhole)
variable (arg5 : Memref sig .tc .vmem S256x512 .fp8e4m3) (harg5 : arg5.IsWhole)
variable (arg6 : Memref sig .tc .vmem S4x256 .f32) (harg6 : arg6.IsWhole)
variable (arg7 : Memref sig .tc .vmem S64x256 .bf16) (harg7 : arg7.IsWhole)
variable (arg8 : Memref sig .tc .vmem S32x256 .f32) (harg8 : arg8.IsWhole)
variable (arg9 : Memref sig .tc .vmem S32x256 .f32) (harg9 : arg9.IsWhole)
variable (arg10 : Memref sig .tc .vmem S384x1536 .bf16) (harg10 : arg10.IsWhole)
variable (arg11 : Memref sig .tc .vmem S256x512 .bf16) (harg11 : arg11.IsWhole)
variable (arg12 : Memref sig .tc .vmem S384x1536 .fp8e4m3) (harg12 : arg12.IsWhole)
variable (arg13 : Memref sig .tc .vmem S48x384 .i8) (harg13 : arg13.IsWhole)
variable (arg14 : Memref sig .tc .vmem S256x512 .fp8e4m3) (harg14 : arg14.IsWhole)
variable (arg15 : Memref sig .tc .vmem S16x256 .i8) (harg15 : arg15.IsWhole)
variable (arg16 : Memref sig .tc .vmem S1x128 .f32) (harg16 : arg16.IsWhole)
variable (arg17 : Memref sig .tc .vmem S1x128 .f32) (harg17 : arg17.IsWhole)
variable (arg18 : Memref sig .tc .vmem S96x256 .f32) (harg18 : arg18.IsWhole)
variable (arg19 : Memref sig .tc .vmem S384x1536 .bf16) (harg19 : arg19.IsWhole)
variable (arg20 : Memref sig .tc .vmem S256x512 .bf16) (harg20 : arg20.IsWhole)
variable (arg21 : Memref sig .tc .vmem S1536x256 .bf16) (harg21 : arg21.IsWhole)
variable (arg22 : Memref sig .tc .vmem S512x256 .bf16) (harg22 : arg22.IsWhole)
variable (arg23 : Memref sig .tc .vmem S256x64 .bf16) (harg23 : arg23.IsWhole)
variable (arg24 : Memref sig .tc .vmem S256x256 .f32) (harg24 : arg24.IsWhole)
variable (arg25 : Memref sig .tc .vmem S48x1536 .bf16) (harg25 : arg25.IsWhole)
variable (arg26 : Memref sig .tc .vmem S16x512 .bf16) (harg26 : arg26.IsWhole)
variable (arg27 : Memref sig .tc .vmem S8x128 .f32) (harg27 : arg27.IsWhole)
variable (arg28 : Memref sig .tc .vmem S12x384x128 .bf16) (harg28 : arg28.IsWhole)
variable (arg29 : Memref sig .tc .vmem S4x256x128 .bf16) (harg29 : arg29.IsWhole)
variable (arg30 : Memref sig .tc .vmem S5x64x128 .f32) (harg30 : arg30.IsWhole)

set_option maxHeartbeats 4000000 in
/-- The stages after the guarded start, from named scratch: the previous block's weights rescaled by the factors found, this block's rows,
    maxima and factors put in their places. -/
theorem step (x1 : Vec Ideal S1 .f32) (x7 : Vec Ideal S32x256 .f32) (x8 : Vec Ideal S32x256 .f32) (x9 : Vec Ideal S384x1536 .bf16) (x10 : Vec Ideal S256x512 .bf16) (x11 : Vec Ideal S384x1536 .fp8e4m3) (x12 : Vec Ideal S48x384 .i8) (x13 : Vec Ideal S256x512 .fp8e4m3) (x14 : Vec Ideal S16x256 .i8) (x15 : Vec Ideal S1x128 .f32) (x16 : Vec Ideal S1x128 .f32) (x17 : Vec Ideal S96x256 .f32) (xs0 : Vec Ideal S1536x256 .bf16) (xs1 : Vec Ideal S512x256 .bf16) (xs2 : Vec Ideal S256x64 .bf16) (xs3 : Vec Ideal S256x256 .f32) (xs4 : Vec Ideal S48x1536 .bf16) (xs5 : Vec Ideal S16x512 .bf16) (xs6 : Vec Ideal S8x128 .f32) (E : Set ℕ) (K : PUnit → sProp 𝕄) :
    iprop(owns (c : Thread nD τ) arg2 fullShare x1 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ owns (c : Thread nD τ) arg27 fullShare xs6 ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg2 fullShare x1 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (laneUp (cur i) (smaxV (rowV 0 (by decide) (qB x11 x12 xs0 xs4) (kB x13 x14 xs1 xs5) xs2 x7 x8 xs3)) (smaxV (rowV 1 (by decide) (qB x11 x12 xs0 xs4) (kB x13 x14 xs1 xs5) xs2 x7 x8 xs3)) x15) ∗ owns (c : Thread nD τ) arg17 fullShare (laneUp (cur i) (gamV (x1 (ix1 0)) (smaxV (rowV 0 (by decide) (qB x11 x12 xs0 xs4) (kB x13 x14 xs1 xs5) xs2 x7 x8 xs3))) (gamV (x1 (ix1 0)) (smaxV (rowV 1 (by decide) (qB x11 x12 xs0 xs4) (kB x13 x14 xs1 xs5) xs2 x7 x8 xs3))) x16) ∗ owns (c : Thread nD τ) arg18 fullShare (rowsUp (cur i) (rowV 0 (by decide) (qB x11 x12 xs0 xs4) (kB x13 x14 xs1 xs5) xs2 x7 x8 xs3) (rowV 1 (by decide) (qB x11 x12 xs0 xs4) (kB x13 x14 xs1 xs5) xs2 x7 x8 xs3) x17) ∗ owns (c : Thread nD τ) arg19 fullShare (rescQ x9 xs6) ∗ owns (c : Thread nD τ) arg20 fullShare (rescK x10 xs6) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ owns (c : Thread nD τ) arg27 fullShare (clipUp (gamV (x1 (ix1 0)) (smaxV (rowV 0 (by decide) (qB x11 x12 xs0 xs4) (kB x13 x14 xs1 xs5) xs2 x7 x8 xs3))) (gamV (x1 (ix1 0)) (smaxV (rowV 1 (by decide) (qB x11 x12 xs0 xs4) (kB x13 x14 xs1 xs5) xs2 x7 x8 xs3))) xs6) ∗ (∃ d, owns (c : Thread nD τ) arg28 fullShare d) ∗ (∃ d, owns (c : Thread nD τ) arg29 fullShare d) ∗ (∃ d, owns (c : Thread nD τ) arg30 fullShare d)) -∗ K ⟨⟩))
      ⊢ wp frame (wpE (defs₀ (F := Ideal)) Variants.none c none) E (progR i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (fun arg0 => progD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (progS i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0))) K := by
  have hmem : True := trivial
  iintro ⟨H2, H8, H9, H10, H11, H12, H13, H14, H15, H16, H17, H18, H19, H20, H21, H22, H23, H24, H25, H26, H27, H28, H29, H30, Hk⟩
  iapply ((runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).2.2 E _ K)
  isplitl [H10]; · iexact H10
  isplitl [H11]; · iexact H11
  isplitl [H19]; · iexact H19
  isplitl [H20]; · iexact H20
  isplitl [H27]; · iexact H27
  iintro ⟨H10, H11, ⟨%f19, H19⟩, ⟨%f20, H20⟩, H27⟩
  iapply ((runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).2.2 E _ K)
  isplitl [H12]; · iexact H12
  isplitl [H13]; · iexact H13
  isplitl [H14]; · iexact H14
  isplitl [H15]; · iexact H15
  isplitl [H25]; · iexact H25
  isplitl [H26]; · iexact H26
  isplitl [H28]; · iexact H28
  isplitl [H29]; · iexact H29
  iintro ⟨H12, H13, H14, H15, H25, H26, ⟨%f28, H28⟩, ⟨%f29, H29⟩⟩
  ihave H28' := (owns_covered c arg28 (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).1 (deqQ x11 x12 xs4) f28 (View.cover_of_tiledL (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).1 S1x128x128.size (by sl_kernel_rfl)) (canon_D28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5)) $$ H28
  ihave H29' := (owns_covered c arg29 (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).2.1 (deqK x13 x14 xs5) f29 (View.cover_of_tiledL (runD (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5).2.1 S1x128x128.size (by sl_kernel_rfl)) (canon_D29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x12 x13 x14 xs4 xs5)) $$ H29
  iapply ((runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).2.2.2.2 E K)
  isplitl [H2]; · iexact H2
  isplitl [H8]; · iexact H8
  isplitl [H9]; · iexact H9
  isplitl [H16]; · iexact H16
  isplitl [H17]; · iexact H17
  isplitl [H18]; · iexact H18
  isplitl [H21]; · iexact H21
  isplitl [H22]; · iexact H22
  isplitl [H23]; · iexact H23
  isplitl [H24]; · iexact H24
  isplitl [H27]; · iexact H27
  isplitl [H28']; · iexact H28'
  isplitl [H29']; · iexact H29'
  isplitl [H30]; · iexact H30
  iintro ⟨H2, H8, H9, H16, H17, H18, H21, H22, H23, H24, H27, H28, H29, H30⟩
  iapply Hk
  isplitl [H2]; · iexact H2
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (owns_covered c arg16 (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).1 _ _ (View.cover_of_tiledL (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).1 S1x128.size (by sl_kernel_rfl)) (canon_S16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5))); iexact H16
  isplitl [H17]; · iapply (owns_covered c arg17 (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).2.1 _ _ (View.cover_of_tiledL (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).2.1 S1x128.size (by sl_kernel_rfl)) (canon_S17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5))); iexact H17
  isplitl [H18]; · iapply (owns_read c arg18 (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).2.2.1 _ _ ((read_S18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5) _).trans (congrArg _ (harg18.read_unread _)))); iexact H18
  isplitl [H19]; · iapply (owns_covered c arg19 (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).1 _ f19 (View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).1 S128x256.size (by sl_kernel_rfl)) (canon_R19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6)); iexact H19
  isplitl [H20]; · iapply (owns_covered c arg20 (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).2.1 _ f20 (View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6).2.1 S128x256.size (by sl_kernel_rfl)) (canon_R20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x9 x10 xs6)); iexact H20
  isplitl [H21]; · iexact H21
  isplitl [H22]; · iexact H22
  isplitl [H23]; · iexact H23
  isplitl [H24]; · iexact H24
  isplitl [H25]; · iexact H25
  isplitl [H26]; · iexact H26
  isplitl [H27]; · iapply (owns_read c arg27 (runS (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5)).2.2.2.1 _ _ ((read_S27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x15 x16 x17 xs0 xs1 xs2 xs3 xs6 (deqQ x11 x12 xs4) (deqK x13 x14 xs5) _).trans (congrArg _ (harg27.read_unread _)))); iexact H27
  isplitl [H28]; · iexists _; iexact H28
  isplitl [H29]; · iexists _; iexact H29
  iexact H30

end Cert.KernelIdeal.Stage

end
-- ==== Proof.Point.lean ====
/- The body of one grid point: the first, which fills the scratch, and the others, which find it filled. -/
module

public import proofs.«01_k».proof.Proof.Body

@[expose] public section

set_option maxRecDepth 16384
set_option synthInstance.maxSize 4096

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
variable (arg1 : Memref sig .tc .smem S3 .i32) (harg1 : arg1.IsWhole)
variable (arg2 : Memref sig .tc .smem S1 .f32) (harg2 : arg2.IsWhole)
variable (arg3 : Memref sig .tc .vmem S256x1536 .fp8e4m3) (harg3 : arg3.IsWhole)
variable (arg4 : Memref sig .tc .vmem S12x256 .f32) (harg4 : arg4.IsWhole)
variable (arg5 : Memref sig .tc .vmem S256x512 .fp8e4m3) (harg5 : arg5.IsWhole)
variable (arg6 : Memref sig .tc .vmem S4x256 .f32) (harg6 : arg6.IsWhole)
variable (arg7 : Memref sig .tc .vmem S64x256 .bf16) (harg7 : arg7.IsWhole)
variable (arg8 : Memref sig .tc .vmem S32x256 .f32) (harg8 : arg8.IsWhole)
variable (arg9 : Memref sig .tc .vmem S32x256 .f32) (harg9 : arg9.IsWhole)
variable (arg10 : Memref sig .tc .vmem S384x1536 .bf16) (harg10 : arg10.IsWhole)
variable (arg11 : Memref sig .tc .vmem S256x512 .bf16) (harg11 : arg11.IsWhole)
variable (arg12 : Memref sig .tc .vmem S384x1536 .fp8e4m3) (harg12 : arg12.IsWhole)
variable (arg13 : Memref sig .tc .vmem S48x384 .i8) (harg13 : arg13.IsWhole)
variable (arg14 : Memref sig .tc .vmem S256x512 .fp8e4m3) (harg14 : arg14.IsWhole)
variable (arg15 : Memref sig .tc .vmem S16x256 .i8) (harg15 : arg15.IsWhole)
variable (arg16 : Memref sig .tc .vmem S1x128 .f32) (harg16 : arg16.IsWhole)
variable (arg17 : Memref sig .tc .vmem S1x128 .f32) (harg17 : arg17.IsWhole)
variable (arg18 : Memref sig .tc .vmem S96x256 .f32) (harg18 : arg18.IsWhole)
variable (arg19 : Memref sig .tc .vmem S384x1536 .bf16) (harg19 : arg19.IsWhole)
variable (arg20 : Memref sig .tc .vmem S256x512 .bf16) (harg20 : arg20.IsWhole)
variable (arg21 : Memref sig .tc .vmem S1536x256 .bf16) (harg21 : arg21.IsWhole)
variable (arg22 : Memref sig .tc .vmem S512x256 .bf16) (harg22 : arg22.IsWhole)
variable (arg23 : Memref sig .tc .vmem S256x64 .bf16) (harg23 : arg23.IsWhole)
variable (arg24 : Memref sig .tc .vmem S256x256 .f32) (harg24 : arg24.IsWhole)
variable (arg25 : Memref sig .tc .vmem S48x1536 .bf16) (harg25 : arg25.IsWhole)
variable (arg26 : Memref sig .tc .vmem S16x512 .bf16) (harg26 : arg26.IsWhole)
variable (arg27 : Memref sig .tc .vmem S8x128 .f32) (harg27 : arg27.IsWhole)
variable (arg28 : Memref sig .tc .vmem S12x384x128 .bf16) (harg28 : arg28.IsWhole)
variable (arg29 : Memref sig .tc .vmem S4x256x128 .bf16) (harg29 : arg29.IsWhole)
variable (arg30 : Memref sig .tc .vmem S5x64x128 .f32) (harg30 : arg30.IsWhole)

set_option maxHeartbeats 1000000 in
/-- A point other than the first. -/
theorem bodyB (hc0 : ¬(Scalar.cmpi .ne (Scalar.extui (Scalar.cmpi .eq (BitVec.ofNat 32 (i 0).val) 0#32)) 0#32) = 1#1) (x1 : Vec Ideal S1 .f32) (x7 : Vec Ideal S32x256 .f32) (x8 : Vec Ideal S32x256 .f32) (x9 : Vec Ideal S384x1536 .bf16) (x10 : Vec Ideal S256x512 .bf16) (x11 : Vec Ideal S384x1536 .fp8e4m3) (x12 : Vec Ideal S48x384 .i8) (x13 : Vec Ideal S256x512 .fp8e4m3) (x14 : Vec Ideal S16x256 .i8) (x15 : Vec Ideal S1x128 .f32) (x16 : Vec Ideal S1x128 .f32) (x17 : Vec Ideal S96x256 .f32) (xs0 : Vec Ideal S1536x256 .bf16) (xs1 : Vec Ideal S512x256 .bf16) (xs2 : Vec Ideal S256x64 .bf16) (xs3 : Vec Ideal S256x256 .f32) (xs4 : Vec Ideal S48x1536 .bf16) (xs5 : Vec Ideal S16x512 .bf16) (xs6 : Vec Ideal S8x128 .f32) (E : Set ℕ) (K : PUnit → sProp 𝕄) :
    iprop(owns (c : Thread nD τ) arg2 fullShare x1 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ owns (c : Thread nD τ) arg27 fullShare xs6 ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg2 fullShare x1 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (laneUp (cur i) (smaxV (rowV 0 (by decide) (qB x11 x12 xs0 xs4) (kB x13 x14 xs1 xs5) xs2 x7 x8 xs3)) (smaxV (rowV 1 (by decide) (qB x11 x12 xs0 xs4) (kB x13 x14 xs1 xs5) xs2 x7 x8 xs3)) x15) ∗ owns (c : Thread nD τ) arg17 fullShare (laneUp (cur i) (gamV (x1 (ix1 0)) (smaxV (rowV 0 (by decide) (qB x11 x12 xs0 xs4) (kB x13 x14 xs1 xs5) xs2 x7 x8 xs3))) (gamV (x1 (ix1 0)) (smaxV (rowV 1 (by decide) (qB x11 x12 xs0 xs4) (kB x13 x14 xs1 xs5) xs2 x7 x8 xs3))) x16) ∗ owns (c : Thread nD τ) arg18 fullShare (rowsUp (cur i) (rowV 0 (by decide) (qB x11 x12 xs0 xs4) (kB x13 x14 xs1 xs5) xs2 x7 x8 xs3) (rowV 1 (by decide) (qB x11 x12 xs0 xs4) (kB x13 x14 xs1 xs5) xs2 x7 x8 xs3) x17) ∗ owns (c : Thread nD τ) arg19 fullShare (rescQ x9 xs6) ∗ owns (c : Thread nD τ) arg20 fullShare (rescK x10 xs6) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ owns (c : Thread nD τ) arg27 fullShare (clipUp (gamV (x1 (ix1 0)) (smaxV (rowV 0 (by decide) (qB x11 x12 xs0 xs4) (kB x13 x14 xs1 xs5) xs2 x7 x8 xs3))) (gamV (x1 (ix1 0)) (smaxV (rowV 1 (by decide) (qB x11 x12 xs0 xs4) (kB x13 x14 xs1 xs5) xs2 x7 x8 xs3))) xs6) ∗ (∃ d, owns (c : Thread nD τ) arg28 fullShare d) ∗ (∃ d, owns (c : Thread nD τ) arg29 fullShare d) ∗ (∃ d, owns (c : Thread nD τ) arg30 fullShare d)) -∗ K ⟨⟩))
      ⊢ wp frame (wpE (defs₀ (F := Ideal)) Variants.none c none) E (cc0_qk_clip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [body_eq]
  have hI : (progI (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) = pure ⟨⟩ := by
    unfold progI
    exact dif_neg hc0
  rw [hI, pure_bind]
  exact step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x9 x10 x11 x12 x13 x14 x15 x16 x17 xs0 xs1 xs2 xs3 xs4 xs5 xs6 E K

set_option maxHeartbeats 4000000 in
/-- The first point: the scratch is filled from the tokens' codes, their scales, the rotary keys and the sequence starts. -/
theorem bodyA (hc0 : (Scalar.cmpi .ne (Scalar.extui (Scalar.cmpi .eq (BitVec.ofNat 32 (i 0).val) 0#32)) 0#32) = 1#1) (x0 : Vec Ideal S3 .i32) (x2 : Vec Ideal S256x1536 .fp8e4m3) (x3 : Vec Ideal S12x256 .f32) (x4 : Vec Ideal S256x512 .fp8e4m3) (x5 : Vec Ideal S4x256 .f32) (x6 : Vec Ideal S64x256 .bf16) (x1 : Vec Ideal S1 .f32) (x7 : Vec Ideal S32x256 .f32) (x8 : Vec Ideal S32x256 .f32) (x9 : Vec Ideal S384x1536 .bf16) (x10 : Vec Ideal S256x512 .bf16) (x11 : Vec Ideal S384x1536 .fp8e4m3) (x12 : Vec Ideal S48x384 .i8) (x13 : Vec Ideal S256x512 .fp8e4m3) (x14 : Vec Ideal S16x256 .i8) (x17 : Vec Ideal S96x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (laneUp (cur i) (smaxV (rowV 0 (by decide) (qB x11 x12 (cqT x2 x3) spreadQ) (kB x13 x14 (ckT x4 x5) spreadK) (kropeP x6) x7 x8 (biasP x0))) (smaxV (rowV 1 (by decide) (qB x11 x12 (cqT x2 x3) spreadQ) (kB x13 x14 (ckT x4 x5) spreadK) (kropeP x6) x7 x8 (biasP x0))) (fun _ => (0 : EReal))) ∗ owns (c : Thread nD τ) arg17 fullShare (laneUp (cur i) (gamV (x1 (ix1 0)) (smaxV (rowV 0 (by decide) (qB x11 x12 (cqT x2 x3) spreadQ) (kB x13 x14 (ckT x4 x5) spreadK) (kropeP x6) x7 x8 (biasP x0)))) (gamV (x1 (ix1 0)) (smaxV (rowV 1 (by decide) (qB x11 x12 (cqT x2 x3) spreadQ) (kB x13 x14 (ckT x4 x5) spreadK) (kropeP x6) x7 x8 (biasP x0)))) (fun _ => (0 : EReal))) ∗ owns (c : Thread nD τ) arg18 fullShare (rowsUp (cur i) (rowV 0 (by decide) (qB x11 x12 (cqT x2 x3) spreadQ) (kB x13 x14 (ckT x4 x5) spreadK) (kropeP x6) x7 x8 (biasP x0)) (rowV 1 (by decide) (qB x11 x12 (cqT x2 x3) spreadQ) (kB x13 x14 (ckT x4 x5) spreadK) (kropeP x6) x7 x8 (biasP x0)) x17) ∗ owns (c : Thread nD τ) arg19 fullShare (rescQ x9 (fun _ => (1 : EReal))) ∗ owns (c : Thread nD τ) arg20 fullShare (rescK x10 (fun _ => (1 : EReal))) ∗ owns (c : Thread nD τ) arg21 fullShare (cqT x2 x3) ∗ owns (c : Thread nD τ) arg22 fullShare (ckT x4 x5) ∗ owns (c : Thread nD τ) arg23 fullShare (kropeP x6) ∗ owns (c : Thread nD τ) arg24 fullShare (biasP x0) ∗ owns (c : Thread nD τ) arg25 fullShare spreadQ ∗ owns (c : Thread nD τ) arg26 fullShare spreadK ∗ owns (c : Thread nD τ) arg27 fullShare (clipUp (gamV (x1 (ix1 0)) (smaxV (rowV 0 (by decide) (qB x11 x12 (cqT x2 x3) spreadQ) (kB x13 x14 (ckT x4 x5) spreadK) (kropeP x6) x7 x8 (biasP x0)))) (gamV (x1 (ix1 0)) (smaxV (rowV 1 (by decide) (qB x11 x12 (cqT x2 x3) spreadQ) (kB x13 x14 (ckT x4 x5) spreadK) (kropeP x6) x7 x8 (biasP x0)))) (fun _ => (1 : EReal))) ∗ (∃ d, owns (c : Thread nD τ) arg28 fullShare d) ∗ (∃ d, owns (c : Thread nD τ) arg29 fullShare d) ∗ (∃ d, owns (c : Thread nD τ) arg30 fullShare d)) -∗ K ⟨⟩))
      ⊢ wp frame (wpE (defs₀ (F := Ideal)) Variants.none c none) E (cc0_qk_clip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [body_eq]
  iintro ⟨H1, H2, H3, H4, H5, H6, H7, H8, H9, H10, H11, H12, H13, H14, H15, H16, H17, H18, H19, H20, H21, H22, H23, H24, H25, H26, H27, H28, H29, H30, Hk⟩
  iapply ((runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.2.2 E _ K)
  isplitl [H1]; · iexact H1
  isplitl [H3]; · iexact H3
  isplitl [H4]; · iexact H4
  isplitl [H5]; · iexact H5
  isplitl [H6]; · iexact H6
  isplitl [H7]; · iexact H7
  isplitl [H16]; · iexact H16
  isplitl [H17]; · iexact H17
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H30]; · iexact H30
  iintro ⟨H1, H3, H4, H5, H6, H7, ⟨%f16, H16⟩, ⟨%f17, H17⟩, ⟨%f21, H21⟩, ⟨%f22, H22⟩, ⟨%f23, H23⟩, ⟨%f24, H24⟩, ⟨%f25, H25⟩, ⟨%f26, H26⟩, ⟨%f27, H27⟩, H30⟩
  ihave H16' := (owns_covered c arg16 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).1 (fun _ => (0 : EReal)) f16 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).1 S1x128.size (by sl_kernel_rfl)) (canon_I16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H16
  ihave H17' := (owns_covered c arg17 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.1 (fun _ => (0 : EReal)) f17 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.1 S1x128.size (by sl_kernel_rfl)) (canon_I17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H17
  ihave H21' := (owns_covered c arg21 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.1 (cqT x2 x3) f21 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.1 S128x256.size (by sl_kernel_rfl)) (canon_I21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H21
  ihave H22' := (owns_covered c arg22 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.1 (ckT x4 x5) f22 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.1 S128x256.size (by sl_kernel_rfl)) (canon_I22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H22
  ihave H23' := (owns_covered c arg23 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.1 (kropeP x6) f23 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.1 S128x64.size (by sl_kernel_rfl)) (canon_I23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H23
  ihave H24' := (owns_covered c arg24 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.1 (biasP x0) f24 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.1 S256x256.size (by sl_kernel_rfl)) (canon_I24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H24
  ihave H25' := (owns_covered c arg25 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.1 spreadQ f25 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.1 S48x1536.size (by sl_kernel_rfl)) (canon_I25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H25
  ihave H26' := (owns_covered c arg26 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.1 spreadK f26 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.1 S16x512.size (by sl_kernel_rfl)) (canon_I26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H26
  ihave H27' := (owns_covered c arg27 (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.2.1 (fun _ => (1 : EReal)) f27 (View.cover_of_tiledL (runI (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6).2.2.2.2.2.2.2.2.1 S8x128.size (by sl_kernel_rfl)) (canon_I27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x2 x3 x4 x5 x6)) $$ H27
  iapply (step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x7 x8 x9 x10 x11 x12 x13 x14 (fun _ => (0 : EReal)) (fun _ => (0 : EReal)) x17 (cqT x2 x3) (ckT x4 x5) (kropeP x6) (biasP x0) spreadQ spreadK (fun _ => (1 : EReal)) E K)
  isplitl [H2]; · iexact H2
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16']; · iexact H16'
  isplitl [H17']; · iexact H17'
  isplitl [H18]; · iexact H18
  isplitl [H19]; · iexact H19
  isplitl [H20]; · iexact H20
  isplitl [H21']; · iexact H21'
  isplitl [H22']; · iexact H22'
  isplitl [H23']; · iexact H23'
  isplitl [H24']; · iexact H24'
  isplitl [H25']; · iexact H25'
  isplitl [H26']; · iexact H26'
  isplitl [H27']; · iexact H27'
  isplitl [H28]; · iexact H28
  isplitl [H29]; · iexact H29
  isplitl [H30]; · iexact H30
  iintro ⟨H2, H8, H9, H10, H11, H12, H13, H14, H15, H16, H17, H18, H19, H20, H21, H22, H23, H24, H25, H26, H27, H28, H29, H30⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

end Cert.KernelIdeal.Stage

end
-- ==== Proof.Points.lean ====
/- What the two runs of the slice kernel share: its branch condition over the grid points, its staging and scratch memrefs. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.KIFrame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, e0]
    word_cmp
   : ∀ t : Fin grid0.N, cond0_0 (grid0.coords t) ↔ t.val % 49 = 0)

/-! ## The kernel body on any staging memrefs: a subtype the run finds -/

/-- Each window's current staging memref at point `t`, spelled as the pipeline passes it (`bodyAt0`), and its wholeness. -/
abbrev ms0_0 (t : Fin cfg0.N) : Memref sig .tc .smem S3 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1536 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x1536 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x1536 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S48x384 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x256 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S96x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S384x1536 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x512 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S1536x256 .bf16 := Memref.whole cc0_scratch0
abbrev scM0_1 : Memref sig .tc .vmem S512x256 .bf16 := Memref.whole cc0_scratch1
abbrev scM0_2 : Memref sig .tc .vmem S256x64 .bf16 := Memref.whole cc0_scratch2
abbrev scM0_3 : Memref sig .tc .vmem S256x256 .f32 := Memref.whole cc0_scratch3
abbrev scM0_4 : Memref sig .tc .vmem S48x1536 .bf16 := Memref.whole cc0_scratch4
abbrev scM0_5 : Memref sig .tc .vmem S16x512 .bf16 := Memref.whole cc0_scratch5
abbrev scM0_6 : Memref sig .tc .vmem S8x128 .f32 := Memref.whole cc0_scratch6
abbrev scM0_7 : Memref sig .tc .vmem S12x384x128 .bf16 := Memref.whole cc0_scratch7
abbrev scM0_8 : Memref sig .tc .vmem S4x256x128 .bf16 := Memref.whole cc0_scratch8
abbrev scM0_9 : Memref sig .tc .vmem S5x64x128 .f32 := Memref.whole cc0_scratch9
/-- The scratch `arg21` the kernel carries between points, as a view: what it holds is stated through it. -/
abbrev VS0_0 : View sig .tc .vmem S1536x256 .bf16 := scM0_0.view
/-- The scratch `arg22` the kernel carries between points, as a view: what it holds is stated through it. -/
abbrev VS0_1 : View sig .tc .vmem S512x256 .bf16 := scM0_1.view
/-- The scratch `arg23` the kernel carries between points, as a view: what it holds is stated through it. -/
abbrev VS0_2 : View sig .tc .vmem S256x64 .bf16 := scM0_2.view
/-- The scratch `arg24` the kernel carries between points, as a view: what it holds is stated through it. -/
abbrev VS0_3 : View sig .tc .vmem S256x256 .f32 := scM0_3.view
/-- The scratch `arg25` the kernel carries between points, as a view: what it holds is stated through it. -/
abbrev VS0_4 : View sig .tc .vmem S48x1536 .bf16 := scM0_4.view
/-- The scratch `arg26` the kernel carries between points, as a view: what it holds is stated through it. -/
abbrev VS0_5 : View sig .tc .vmem S16x512 .bf16 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.KIFrame

end
-- ==== Proof.Value.lean ====
/- What every buffer of the pipeline holds at every grid point, and the run. -/
module

public import proofs.«01_k».proof.Proof.Point
public import proofs.«01_k».proof.Proof.Points
public import Idealize.ShloMosaic.Lib.Pipeline.DatRel
public import Idealize.ShloMosaic.Lib.Pipeline.ArrRel
public import Idealize.ShloMosaic.Lib.Claim

@[expose] public section

set_option maxRecDepth 16384
set_option synthInstance.maxSize 4096

noncomputable section

namespace Cert.KernelIdeal.Value

open Cert.KernelIdeal Cert.KernelIdeal.Gen Cert.KernelIdeal.KIFrame Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The frame from a run over proof data that may forget an output. -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 0 rfl).trans ((hA c 0).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 9 rfl).trans ((hA c 9).trans (V_main_arg8 m c)),
      (Pipeline.RDat.FramePost.arr_in h c 10 rfl).trans ((hA c 10).trans (V_main_arg9 m c)),
      (Pipeline.RDat.FramePost.arr_in h c 11 rfl).trans ((hA c 11).trans (V_main_arg10 m c)),
      ((h c).2 main_arg11 (Pipeline.mem_restRefs_of main_arg11 (by decide) (by decide))).trans (V_main_arg11 m c),
      (Pipeline.RDat.FramePost.arr_in h c 13 rfl).trans ((hA c 13).trans (V_main_arg12 m c)),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-- The grid's point `n`, its last for any larger number. -/
def pt (n : ℕ) : Fin cfg0.N := ⟨min n 48, by rw [show cfg0.N = 49 from N_0]; omega⟩

theorem pt_val (t : Fin cfg0.N) : pt t.val = t := by
  have h : t.val < 49 := lt_of_lt_of_eq t.isLt (show cfg0.N = 49 from N_0)
  exact Fin.ext (min_eq_left (by omega))

/-- The queries and keys of point `n`'s two heads. -/
def qN (c : Dev nD) (n : ℕ) : FVec Ideal S384x256 .f32 := qB (iblk m c 11 (pt n)) (iblk m c 12 (pt n)) (cqT (iblk m c 2 (pt 0)) (iblk m c 3 (pt 0))) spreadQ
def kN (c : Dev nD) (n : ℕ) : FVec Ideal S256x256 .f32 := kB (iblk m c 13 (pt n)) (iblk m c 14 (pt n)) (ckT (iblk m c 4 (pt 0)) (iblk m c 5 (pt 0))) spreadK

/-- Head `h` of point `n`: its row of maxima, their maximum, the factor. -/
def rowN (c : Dev nD) (h : ℕ) (hh : h < 2) (n : ℕ) : Fin 256 → EReal :=
  rowV h hh (qN m c n) (kN m c n) (kropeP (iblk m c 6 (pt 0))) (iblk m c 7 (pt 0)) (iblk m c 8 (pt 0)) (biasP (iblk m c 0 (pt 0)))
def smaxN (c : Dev nD) (h : ℕ) (hh : h < 2) (n : ℕ) : EReal := smaxV (rowN m c h hh n)
def gamN (c : Dev nD) (h : ℕ) (hh : h < 2) (n : ℕ) : EReal := gamV ((iblk m c 1 (pt 0)) (ix1 0)) (smaxN m c h hh n)

/-- Before point `n`: the maxima's and the factors' lanes, the rows over the contents `X` the buffer began with, the weights' factors. -/
def smaxA (c : Dev nD) : ℕ → Vec Ideal S1x128 .f32
  | 0 => fun _ => (0 : EReal)
  | n + 1 => laneUp (cur (grid0.coords (pt n))) (smaxN m c 0 (by decide) n) (smaxN m c 1 (by decide) n) (smaxA c n)
def gamA (c : Dev nD) : ℕ → Vec Ideal S1x128 .f32
  | 0 => fun _ => (0 : EReal)
  | n + 1 => laneUp (cur (grid0.coords (pt n))) (gamN m c 0 (by decide) n) (gamN m c 1 (by decide) n) (gamA c n)
def rowsA (c : Dev nD) (X : Vec Ideal S96x256 .f32) : ℕ → Vec Ideal S96x256 .f32
  | 0 => X
  | n + 1 => rowsUp (cur (grid0.coords (pt n))) (rowN m c 0 (by decide) n) (rowN m c 1 (by decide) n) (rowsA c X n)
def clipA (c : Dev nD) : ℕ → Vec Ideal S8x128 .f32
  | 0 => fun _ => (1 : EReal)
  | n + 1 => clipUp (gamN m c 0 (by decide) n) (gamN m c 1 (by decide) n) (clipA c n)

/-- The invariant: before the first point every scratch at anything; afterwards the transposed tokens, the rotary keys, the mask and the
    spreading matrices in place, the weights' factors those of the point before, the other scratch at anything. -/
def PhiS (c : Dev nD) : (n : ℕ) → sProp 𝕄
  | 0 => Pipeline.ΦA spec0 c
  | n + 1 => iprop(iprop(owns (c : Thread nD τ) scM0_0 fullShare (cqT (iblk m c 2 (pt 0)) (iblk m c 3 (pt 0))) ∗ owns (c : Thread nD τ) scM0_1 fullShare (ckT (iblk m c 4 (pt 0)) (iblk m c 5 (pt 0))) ∗ owns (c : Thread nD τ) scM0_2 fullShare (kropeP (iblk m c 6 (pt 0))) ∗ owns (c : Thread nD τ) scM0_3 fullShare (biasP (iblk m c 0 (pt 0))) ∗ owns (c : Thread nD τ) scM0_4 fullShare spreadQ ∗ owns (c : Thread nD τ) scM0_5 fullShare spreadK ∗ owns (c : Thread nD τ) scM0_6 fullShare (clipA m c (n + 1)) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_pos (c : Dev nD) (n : ℕ) (hz : n ≠ 0) :
    PhiS m c n = iprop(iprop(owns (c : Thread nD τ) scM0_0 fullShare (cqT (iblk m c 2 (pt 0)) (iblk m c 3 (pt 0))) ∗ owns (c : Thread nD τ) scM0_1 fullShare (ckT (iblk m c 4 (pt 0)) (iblk m c 5 (pt 0))) ∗ owns (c : Thread nD τ) scM0_2 fullShare (kropeP (iblk m c 6 (pt 0))) ∗ owns (c : Thread nD τ) scM0_3 fullShare (biasP (iblk m c 0 (pt 0))) ∗ owns (c : Thread nD τ) scM0_4 fullShare spreadQ ∗ owns (c : Thread nD τ) scM0_5 fullShare spreadK ∗ owns (c : Thread nD τ) scM0_6 fullShare (clipA m c n) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-- The window held to a relation: the rows', whose buffer begins at anything. -/
def held0 : Fin 20 → Bool := fun w => w.val == 17

/-- What it may hold after point `t`: the rows found so far, over some first contents. -/
def Rl0 (c : Dev nD) : (w : Fin cfg0.W) → Fin cfg0.N → ((cfg0.win w).block.Idx → Elt Ideal (cfg0.win w).elt) → Prop := fun w t => match w with
  | ⟨17, _⟩ => fun X => ∃ X0, X = rowsA m c X0 (t.val + 1)
  | _ => fun _ => True

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => smaxA m c (t.val + 1)
    | ⟨16, _⟩ => gamA m c (t.val + 1)
    | ⟨17, h⟩ => Pipeline.Dat.unnamed (cfg := cfg0) ⟨17, h⟩ t
    | ⟨18, _⟩ => rescQ (iblk m c 9 t) (clipA m c t.val)
    | ⟨19, _⟩ => rescK (iblk m c 10 t) (clipA m c t.val)
    | ⟨_ + 20, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = smaxA m c (t.val + 1) := by dsimp only [dats]
theorem after0_16 (c : Dev nD) (t : Fin cfg0.N) : (dats m 0 c).after 16 t = gamA m c (t.val + 1) := by dsimp only [dats]
theorem after0_18 (c : Dev nD) (t : Fin cfg0.N) : (dats m 0 c).after 18 t = rescQ (iblk m c 9 t) (clipA m c t.val) := by dsimp only [dats]
theorem after0_19 (c : Dev nD) (t : Fin cfg0.N) : (dats m 0 c).after 19 t = rescK (iblk m c 10 t) (clipA m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem const0_0 (c : Dev nD) (t : Fin cfg0.N) : iblk m c 0 t = iblk m c 0 (pt 0) := rfl
theorem const0_1 (c : Dev nD) (t : Fin cfg0.N) : iblk m c 1 t = iblk m c 1 (pt 0) := rfl
theorem const0_2 (c : Dev nD) (t : Fin cfg0.N) : iblk m c 2 t = iblk m c 2 (pt 0) := rfl
theorem const0_3 (c : Dev nD) (t : Fin cfg0.N) : iblk m c 3 t = iblk m c 3 (pt 0) := rfl
theorem const0_4 (c : Dev nD) (t : Fin cfg0.N) : iblk m c 4 t = iblk m c 4 (pt 0) := rfl
theorem const0_5 (c : Dev nD) (t : Fin cfg0.N) : iblk m c 5 t = iblk m c 5 (pt 0) := rfl
theorem const0_6 (c : Dev nD) (t : Fin cfg0.N) : iblk m c 6 t = iblk m c 6 (pt 0) := rfl
theorem const0_7 (c : Dev nD) (t : Fin cfg0.N) : iblk m c 7 t = iblk m c 7 (pt 0) := rfl
theorem const0_8 (c : Dev nD) (t : Fin cfg0.N) : iblk m c 8 t = iblk m c 8 (pt 0) := rfl
theorem before0_15 (c : Dev nD) (t : Fin cfg0.N) (ht : t.val ≠ 0) (d) : (dats m 0 c).before 15 t d = smaxA m c t.val := by
  have hN : t.val < 49 := lt_of_lt_of_eq t.isLt (show cfg0.N = 49 from N_0)
  rw [(dats m 0 c).before_out_kept 15 rfl t ht (Bool.eq_false_iff.2 fun h => by have := (flush0_15 _).1 h; simp only at this; omega) (fun _ => rfl) (fun _ _ => rfl) d, after0_15]
  simp only [Nat.sub_add_cancel (Nat.one_le_iff_ne_zero.2 ht)]
theorem before0_16 (c : Dev nD) (t : Fin cfg0.N) (ht : t.val ≠ 0) (d) : (dats m 0 c).before 16 t d = gamA m c t.val := by
  have hN : t.val < 49 := lt_of_lt_of_eq t.isLt (show cfg0.N = 49 from N_0)
  rw [(dats m 0 c).before_out_kept 16 rfl t ht (Bool.eq_false_iff.2 fun h => by have := (flush0_16 _).1 h; simp only at this; omega) (fun _ => rfl) (fun _ _ => rfl) d, after0_16]
  simp only [Nat.sub_add_cancel (Nat.one_le_iff_ne_zero.2 ht)]

/-- What the rows' buffer may hold at a point: the rows found before it, over some first contents. -/
theorem finds0_17 (c : Dev nD) (t : Fin cfg0.N) (Y) (h : ((dats m 0 c).toRRel held0 (Rl0 m c)).Finds 17 t Y) : ∃ X0, Y = rowsA m c X0 t.val := by
  have hN : t.val < 49 := lt_of_lt_of_eq t.isLt (show cfg0.N = 49 from N_0)
  by_cases ht : t.val = 0
  · exact ⟨Y, by rw [ht]; rfl⟩
  · rcases (Pipeline.RDat.finds_of_pos _ (w := 17) ((cfg0.win 17).fetch_out rfl t) ht Y).1 h with hf | hl
    · have := (flush0_17 _).1 hf
      simp only at this
      omega
    · obtain ⟨X0, hX⟩ := (dats m 0 c).toRRel_leaves (w := 17) rfl hl
      exact ⟨X0, by rw [hX]; simp only [Nat.sub_add_cancel (Nat.one_le_iff_ne_zero.2 ht)]⟩

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ Y, ⌜((dats m 0 c).toRRel held0 (Rl0 m c)).Finds 17 t Y⌝ ∗ owns (c : Thread nD τ) (ms0_17 t) fullShare Y)
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ X, ⌜Rl0 m c 17 t X⌝ ∗ owns (c : Thread nD τ) (ms0_17 t) fullShare X)
    ∗ owns (c : Thread nD τ) (ms0_18 t) fullShare ((dats m 0 c).after 18 t)
    ∗ owns (c : Thread nD τ) (ms0_19 t) fullShare ((dats m 0 c).after 19 t))

/-- The maxima, factors, rows and weights' factors after point `t`, from those before it. -/
theorem smaxA_succ (c : Dev nD) (t : Fin cfg0.N) : smaxA m c (t.val + 1) = laneUp (cur (grid0.coords t)) (smaxN m c 0 (by decide) t.val) (smaxN m c 1 (by decide) t.val) (smaxA m c t.val) := by
  rw [smaxA, pt_val]
theorem gamA_succ (c : Dev nD) (t : Fin cfg0.N) : gamA m c (t.val + 1) = laneUp (cur (grid0.coords t)) (gamN m c 0 (by decide) t.val) (gamN m c 1 (by decide) t.val) (gamA m c t.val) := by
  rw [gamA, pt_val]
theorem rowsA_succ (c : Dev nD) (X : Vec Ideal S96x256 .f32) (t : Fin cfg0.N) : rowsA m c X (t.val + 1) = rowsUp (cur (grid0.coords t)) (rowN m c 0 (by decide) t.val) (rowN m c 1 (by decide) t.val) (rowsA m c X t.val) := by
  rw [rowsA, pt_val]
theorem clipA_succ (c : Dev nD) (t : Fin cfg0.N) : clipA m c (t.val + 1) = clipUp (gamN m c 0 (by decide) t.val) (gamN m c 1 (by decide) t.val) (clipA m c t.val) := rfl
theorem rowN_at (c : Dev nD) (h : ℕ) (hh : h < 2) (t : Fin cfg0.N) : rowN m c h hh t.val =
    rowV h hh (qB (iblk m c 11 t) (iblk m c 12 t) (cqT (iblk m c 2 (pt 0)) (iblk m c 3 (pt 0))) spreadQ) (kB (iblk m c 13 t) (iblk m c 14 t) (ckT (iblk m c 4 (pt 0)) (iblk m c 5 (pt 0))) spreadK) (kropeP (iblk m c 6 (pt 0))) (iblk m c 7 (pt 0)) (iblk m c 8 (pt 0)) (biasP (iblk m c 0 (pt 0))) := by
  unfold rowN qN kN
  rw [pt_val]

set_option maxHeartbeats 8000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_18, after0_19]
  rw [const0_0 m c t, const0_1 m c t, const0_2 m c t, const0_3 m c t, const0_4 m c t, const0_5 m c t, const0_6 m c t, const0_7 m c t, const0_8 m c t]
  rw [show (dats m 0 c).Φ t.succ = PhiS m c (t.val + 1) from rfl, PhiS_pos m c _ (Nat.succ_ne_zero _),
    show (dats m 0 c).Φ t.castSucc = PhiS m c t.val from rfl]
  have hN : t.val < 49 := lt_of_lt_of_eq t.isLt (show cfg0.N = 49 from N_0)
  rw [smaxA_succ, gamA_succ, clipA_succ]
  unfold gamN smaxN
  simp only [Rl0]
  by_cases h0 : t.val = 0
  · have hs : smaxA m c t.val = fun _ => (0 : EReal) := by rw [h0]; rfl
    have hg : gamA m c t.val = fun _ => (0 : EReal) := by rw [h0]; rfl
    have hc : clipA m c t.val = fun _ => (1 : EReal) := by rw [h0]; rfl
    have hΦ : PhiS m c t.val = Pipeline.ΦA spec0 c := by rw [h0]; rfl
    rw [hs, hg, hc, hΦ, PhiA0_eq, rowN_at, rowN_at]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%Y, %hY, H17⟩, ⟨%d18, H18⟩, ⟨%d19, H19⟩⟩
    obtain ⟨X0, rfl⟩ := finds0_17 m c t Y hY
    iapply (bodyA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) (iblk m c 0 (pt 0)) (iblk m c 2 (pt 0)) (iblk m c 3 (pt 0)) (iblk m c 4 (pt 0)) (iblk m c 5 (pt 0)) (iblk m c 6 (pt 0)) (iblk m c 1 (pt 0)) (iblk m c 7 (pt 0)) (iblk m c 8 (pt 0)) (iblk m c 9 t) (iblk m c 10 t) (iblk m c 11 t) (iblk m c 12 t) (iblk m c 13 t) (iblk m c 14 t) (rowsA m c X0 t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, H14, H15, H16, H17, H18, H19, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · iexists _
      isplitr
      · ipureintro; exact ⟨X0, by rw [rowsA_succ, rowN_at, rowN_at]⟩
      · iexact H17
    isplitl [H18]; · iexact H18
    iexact H19
  · rw [PhiS_pos m c _ h0, rowN_at, rowN_at]
    simp only [before0_15 m c t h0, before0_16 m c t h0]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%Y, %hY, H17⟩, ⟨%d18, H18⟩, ⟨%d19, H19⟩⟩
    obtain ⟨X0, rfl⟩ := finds0_17 m c t Y hY
    iapply (bodyB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 (by have := (hcond0_0 t).mp h; omega)) (iblk m c 1 (pt 0)) (iblk m c 7 (pt 0)) (iblk m c 8 (pt 0)) (iblk m c 9 t) (iblk m c 10 t) (iblk m c 11 t) (iblk m c 12 t) (iblk m c 13 t) (iblk m c 14 t) (smaxA m c t.val) (gamA m c t.val) (rowsA m c X0 t.val) (cqT (iblk m c 2 (pt 0)) (iblk m c 3 (pt 0))) (ckT (iblk m c 4 (pt 0)) (iblk m c 5 (pt 0))) (kropeP (iblk m c 6 (pt 0))) (biasP (iblk m c 0 (pt 0))) spreadQ spreadK (clipA m c t.val) Set.univ _)
    isplitl [H1]; · iexact H1
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H1, H7, H8, H9, H10, H11, H12, H13, H14, H15, H16, H17, H18, H19, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · iexists _
      isplitr
      · ipureintro; exact ⟨X0, by rw [rowsA_succ, rowN_at, rowN_at]⟩
      · iexact H17
    isplitl [H18]; · iexact H18
    iexact H19

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ held0 (Rl0 m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 49 from N_0]; decide), PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexact HS7
    isplitl [HS8]; · iexact HS8
    iexact HS9
  iexact Hg

/-- The relational proof data: every window exact but the rows'. -/
abbrev rdat (c : Dev nD) : Pipeline.RDat τ (Elt Ideal) Unit ℕ (UR sig nD τ) ℕ (cfgs 0) c := (dats m 0 c).toRRel held0 (Rl0 m c)

set_option backward.isDefEq.respectTransparency.types false in
/-- The run: every array at what the proof data leave in it, every counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_rel m ρ (rdat m) (A_eq m) (run_main m ρ)

/-- The frame: the arguments end as they began, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Value

end
-- ==== Proof.Spec.lean ====
/- What both programs compute, over their arguments read as plain functions. -/
module

public import Idealize.ShloMosaic.PureOps
public import Idealize.ShloMosaic.PureOps.Ideal

@[expose] public section

noncomputable section

namespace Cert.Spec

open Idealize.ShloMosaic

/-- The arguments. -/
structure In where
  cq : Fin 256 → Fin 1536 → EReal
  cqs : Fin 256 → Fin 12 → EReal
  ck : Fin 256 → Fin 512 → EReal
  cks : Fin 256 → Fin 4 → EReal
  kr : Fin 256 → Fin 64 → EReal
  cu : Fin 3 → BitVec 32
  cs : Fin 256 → Fin 32 → EReal
  sn : Fin 256 → Fin 32 → EReal
  wq : Fin 18432 → Fin 1536 → EReal
  wk : Fin 12288 → Fin 512 → EReal
  qc : Fin 18432 → Fin 1536 → EReal
  qe : Fin 18432 → Fin 48 → BitVec 8
  kc : Fin 12288 → Fin 512 → EReal
  ke : Fin 12288 → Fin 16 → BitVec 8
  tau : EReal

/-- The power of two a scale's exponent byte stands for. -/
def sc (e : BitVec 8) : EReal := Ideal.exp2 (((e.setWidth 32 - 127#32).toInt : ℝ) : EReal)

variable (I : In)

/-- The queries and the keys before the heads are told apart. -/
def Q (t : Fin 256) (o : Fin 18432) : EReal :=
  ∑ k : Fin 1536, (I.cq t k * I.cqs t ⟨k.val / 128, by omega⟩) * (I.qc o k * sc (I.qe o ⟨k.val / 32, by omega⟩))
def Kn (t : Fin 256) (o : Fin 12288) : EReal :=
  ∑ k : Fin 512, (I.ck t k * I.cks t ⟨k.val / 128, by omega⟩) * (I.kc o k * sc (I.ke o ⟨k.val / 32, by omega⟩))

/-- The rotated part of a query, pairs side by side. -/
def rot (t : Fin 256) (h : Fin 96) (e : Fin 64) : EReal :=
  if e.val % 2 = 0 then
    Q I t ⟨192 * h.val + 128 + 2 * (e.val / 2), by omega⟩ * I.cs t ⟨e.val / 2, by omega⟩
      - Q I t ⟨192 * h.val + 128 + (2 * (e.val / 2) + 1), by omega⟩ * I.sn t ⟨e.val / 2, by omega⟩
  else
    Q I t ⟨192 * h.val + 128 + 2 * (e.val / 2), by omega⟩ * I.sn t ⟨e.val / 2, by omega⟩
      + Q I t ⟨192 * h.val + 128 + (2 * (e.val / 2) + 1), by omega⟩ * I.cs t ⟨e.val / 2, by omega⟩

/-- The score of a key for a query, before the scale. -/
def score (h : Fin 96) (q k : Fin 256) : EReal :=
  ∑ d : Fin 128, Q I q ⟨192 * h.val + d.val, by omega⟩ * Kn I k ⟨128 * h.val + d.val, by omega⟩
    + ∑ e : Fin 64, I.kr k e * rot I q h e

/-- The sequence a position belongs to. -/
def seqOf (p : Nat) : BitVec 32 :=
  (if (I.cu 1).sle (BitVec.ofNat 32 p) then 1#32 else 0#32) + (if (I.cu 2).sle (BitVec.ofNat 32 p) then 1#32 else 0#32)

/-- The softmax scale. -/
def SC : EReal := Ideal.ofBits .f32 1033096506#32

/-- The largest scaled score a query sees, over a head, and the head's factor. -/
def row (h : Fin 96) (q : Fin 256) : EReal :=
  Finset.fold max (⊥ : EReal) (fun k : Fin 256 => if k.val ≤ q.val ∧ seqOf I k.val = seqOf I q.val then score I h q k * SC else ⊥) Finset.univ
def smax (h : Fin 96) : EReal := Finset.fold max (⊥ : EReal) (row I h) Finset.univ
def gam (h : Fin 96) : EReal := min 1 (Ideal.div I.tau (max (smax I h) (Ideal.ofBits .f32 897988541#32)))

/-- The rescaled weights. -/
def wqn (o : Fin 18432) (k : Fin 1536) : EReal :=
  I.wq o k * (if o.val % 192 < 128 then Ideal.sqrt (gam I ⟨o.val / 192, by omega⟩) else gam I ⟨o.val / 192, by omega⟩)
def wkn (o : Fin 12288) (k : Fin 512) : EReal := I.wk o k * Ideal.sqrt (gam I ⟨o.val / 128, by omega⟩)

end Cert.Spec

end
-- ==== Proof.Reads.lean ====
/- What every block of the pipeline holds of the arguments. -/
module

public import proofs.«01_k».proof.Proof.Value
public import proofs.«01_k».proof.Proof.Spec
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Value

open Cert.KernelIdeal Cert.KernelIdeal.Gen Cert.KernelIdeal.KIFrame Cert.KernelIdeal.Stage
open Idealize.ShloMosaic Idealize.ShloMosaic.TcCoe Idealize.ShloMosaic.Tactic

variable (m : (ℓ : Loc nD τ sig) → Buf (Elt Ideal) ℓ) (c : Dev nD)

/-- The arguments as plain functions. -/
def inK : Spec.In where
  cq t k := m ((c.tc : Thread nD τ).loc main_arg0) (ix2 t k)
  cqs t k := m ((c.tc : Thread nD τ).loc main_arg1) (ix2 t k)
  ck t k := m ((c.tc : Thread nD τ).loc main_arg2) (ix2 t k)
  cks t k := m ((c.tc : Thread nD τ).loc main_arg3) (ix2 t k)
  kr t k := m ((c.tc : Thread nD τ).loc main_arg4) (ix2 t k)
  cu k := m ((c.tc : Thread nD τ).loc main_arg5) (ix1 k)
  cs t k := m ((c.tc : Thread nD τ).loc main_arg6) (ix2 t k)
  sn t k := m ((c.tc : Thread nD τ).loc main_arg7) (ix2 t k)
  wq t k := m ((c.tc : Thread nD τ).loc main_arg8) (ix2 t k)
  wk t k := m ((c.tc : Thread nD τ).loc main_arg9) (ix2 t k)
  qc t k := m ((c.tc : Thread nD τ).loc main_arg10) (ix2 t k)
  qe t k := m ((c.tc : Thread nD τ).loc main_arg11) (ix2 t k)
  kc t k := m ((c.tc : Thread nD τ).loc main_arg12) (ix2 t k)
  ke t k := m ((c.tc : Thread nD τ).loc main_arg13) (ix2 t k)
  tau := m ((c.tc : Thread nD τ).loc main_arg14) (fun a => a.elim0)

theorem idx : ∀ t : Fin cfg0.N, win0_0.index t = ![0] ∧ win0_1.index t = ![0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val - 1, 0] ∧ win0_10.index t = ![t.val - 1, 0] ∧ win0_11.index t = ![min t.val 47, 0] ∧ win0_12.index t = ![0, min t.val 47]
    ∧ win0_13.index t = ![min t.val 47, 0] ∧ win0_14.index t = ![0, min t.val 47] ∧ win0_15.index t = ![0, 0] ∧ win0_16.index t = ![0, 0]
    ∧ win0_17.index t = ![0, 0] ∧ win0_18.index t = ![t.val - 1, 0] ∧ win0_19.index t = ![t.val - 1, 0] :=
  (by decide +kernel : ∀ t : Fin grid0.N, _)

theorem lt49 (t : Fin cfg0.N) : t.val < 49 := lt_of_lt_of_eq t.isLt (show cfg0.N = 49 from N_0)

theorem V_v0 : V m c main_v0 = fun _ => m ((c.tc : Thread nD τ).loc main_arg14) (fun a => a.elim0) := by
  funext j; entry_read; exact congrArg (m ((c.tc : Thread nD τ).loc main_arg14)) (show _ = _ from funext fun a : Fin 0 => a.elim0)
theorem V_v1 : V m c main_v1 = fun j => m ((c.tc : Thread nD τ).loc main_arg1) (ix2 (j 1) (j 0)) := by
  funext j; entry_read; pointwise
theorem V_v2 : V m c main_v2 = fun j => m ((c.tc : Thread nD τ).loc main_arg3) (ix2 (j 1) (j 0)) := by
  funext j; entry_read; pointwise
theorem V_v3 : V m c main_v3 = fun j => m ((c.tc : Thread nD τ).loc main_arg4) (ix2 (j 1) (j 0)) := by
  funext j; entry_read; pointwise
theorem V_v4 : V m c main_v4 = fun j => m ((c.tc : Thread nD τ).loc main_arg6) (ix2 (j 1) (j 0)) := by
  funext j; entry_read; pointwise
theorem V_v5 : V m c main_v5 = fun j => m ((c.tc : Thread nD τ).loc main_arg7) (ix2 (j 1) (j 0)) := by
  funext j; entry_read; pointwise
theorem V_v6 : V m c main_v6 = fun j => m ((c.tc : Thread nD τ).loc main_arg11) (ix2 (j 1) (j 0)) := by
  funext j; entry_read; pointwise
theorem V_v7 : V m c main_v7 = fun j => m ((c.tc : Thread nD τ).loc main_arg13) (ix2 (j 1) (j 0)) := by
  funext j; entry_read; pointwise

variable (t : Fin cfg0.N)

theorem w0 (k : Fin 3) : iblk m c 0 t (ix1 k) = (inK m c).cu k := by
  unfold inK; blk_ext [iblk, V, idx t]
theorem w2 (a : Fin 256) (k : Fin 1536) : iblk m c 2 t (ix2 a k) = (inK m c).cq a k := by
  unfold inK; blk_ext [iblk, V, idx t]
theorem w3 (a : Fin 256) (k : Fin 12) : iblk m c 3 t (ix2 k a) = (inK m c).cqs a k := by
  show V m c main_v1 ((win0_3.blk t).view.emb (ix2 k a)) = _
  rw [V_v1]; unfold inK; blk_ext [idx t]
theorem w4 (a : Fin 256) (k : Fin 512) : iblk m c 4 t (ix2 a k) = (inK m c).ck a k := by
  unfold inK; blk_ext [iblk, V, idx t]
theorem w5 (a : Fin 256) (k : Fin 4) : iblk m c 5 t (ix2 k a) = (inK m c).cks a k := by
  show V m c main_v2 ((win0_5.blk t).view.emb (ix2 k a)) = _
  rw [V_v2]; unfold inK; blk_ext [idx t]
theorem w6 (a : Fin 256) (k : Fin 64) : iblk m c 6 t (ix2 k a) = (inK m c).kr a k := by
  show V m c main_v3 ((win0_6.blk t).view.emb (ix2 k a)) = _
  rw [V_v3]; unfold inK; blk_ext [idx t]
theorem w7 (a : Fin 256) (k : Fin 32) : iblk m c 7 t (ix2 k a) = (inK m c).cs a k := by
  show V m c main_v4 ((win0_7.blk t).view.emb (ix2 k a)) = _
  rw [V_v4]; unfold inK; blk_ext [idx t]
theorem w8 (a : Fin 256) (k : Fin 32) : iblk m c 8 t (ix2 k a) = (inK m c).sn a k := by
  show V m c main_v5 ((win0_8.blk t).view.emb (ix2 k a)) = _
  rw [V_v5]; unfold inK; blk_ext [idx t]
theorem w1 : iblk m c 1 t (ix1 0) = (inK m c).tau := by
  show V m c main_v0 ((win0_1.blk t).view.emb (ix1 0)) = _
  rw [V_v0]; rfl
theorem w11 (a : Fin 384) (k : Fin 1536) (h : 384 * min t.val 47 + a.val < 18432) :
    iblk m c 11 t (ix2 a k) = (inK m c).qc ⟨384 * min t.val 47 + a.val, h⟩ k := by
  unfold inK; blk_ext [iblk, V, idx t]
theorem w12 (a : Fin 384) (k : Fin 48) (h : 384 * min t.val 47 + a.val < 18432) :
    iblk m c 12 t (ix2 k a) = (inK m c).qe ⟨384 * min t.val 47 + a.val, h⟩ k := by
  show V m c main_v6 ((win0_12.blk t).view.emb (ix2 k a)) = _
  rw [V_v6]; unfold inK; blk_ext [idx t]
theorem w13 (a : Fin 256) (k : Fin 512) (h : 256 * min t.val 47 + a.val < 12288) :
    iblk m c 13 t (ix2 a k) = (inK m c).kc ⟨256 * min t.val 47 + a.val, h⟩ k := by
  unfold inK; blk_ext [iblk, V, idx t]
theorem w14 (a : Fin 256) (k : Fin 16) (h : 256 * min t.val 47 + a.val < 12288) :
    iblk m c 14 t (ix2 k a) = (inK m c).ke ⟨256 * min t.val 47 + a.val, h⟩ k := by
  show V m c main_v7 ((win0_14.blk t).view.emb (ix2 k a)) = _
  rw [V_v7]; unfold inK; blk_ext [idx t]
theorem w9 (a : Fin 384) (k : Fin 1536) (h : 384 * (t.val - 1) + a.val < 18432) :
    iblk m c 9 t (ix2 a k) = (inK m c).wq ⟨384 * (t.val - 1) + a.val, h⟩ k := by
  unfold inK; blk_ext [iblk, V, idx t]
theorem w10 (a : Fin 256) (k : Fin 512) (h : 256 * (t.val - 1) + a.val < 12288) :
    iblk m c 10 t (ix2 a k) = (inK m c).wk ⟨256 * (t.val - 1) + a.val, h⟩ k := by
  unfold inK; blk_ext [iblk, V, idx t]

end Cert.KernelIdeal.Value

end
-- ==== Proof.Sums.lean ====
/- The laws of the extended reals the two programs differ by. -/
module

public import proofs.«01_k».proof.Proof.Spec
public import Mathlib.Data.EReal.Operations
public import Mathlib.Algebra.BigOperators.Fin

@[expose] public section

noncomputable section

namespace Cert.Spec

open Idealize.ShloMosaic

/-- A sum against a row of an identity matrix. -/
theorem sum_pick {n : ℕ} (f : Fin n → EReal) (a : Fin n) : ∑ g : Fin n, f g * (if g.val = a.val then (1 : EReal) else 0) = f a := by
  rw [Finset.sum_eq_single a (fun b _ hb => by rw [if_neg (fun h => hb (Fin.ext h)), mul_zero]) (fun h => absurd (Finset.mem_univ _) h),
    if_pos rfl, mul_one]

/-- A positive normal word's value. -/
theorem f32_val (w : BitVec 32) (hs : w.extractLsb' 31 1 = 0#1) (h0 : (w.extractLsb' 23 8).toNat ≠ 0) (h1 : (w.extractLsb' 23 8).toNat ≠ 255) :
    Ideal.ofBits .f32 w = (((2 ^ 23 + (w.extractLsb' 0 23).toNat : ℕ) * (2 : ℝ) ^ (((w.extractLsb' 23 8).toNat : ℤ) - 127 - 23) : ℝ) : EReal) := by
  show Ideal.ieee 8 23 w = _
  unfold Ideal.ieee
  dsimp only
  rw [show (8 + 23 : ℕ) = 31 from rfl, hs, if_neg (by norm_num; exact h1), if_neg h0]
  norm_num

/-- The scale is a positive real. -/
theorem SC_real : ∃ r : ℝ, 0 < r ∧ SC = (r : EReal) :=
  ⟨_, by positivity, f32_val 1033096506#32 (by decide) (by decide) (by decide)⟩

/-- The scale taken after the largest of scores with a mask added, or before the largest of scores with a mask selected. -/
theorem masked_max {n : ℕ} (s : Fin n → EReal) (ok : Fin n → Prop) [DecidablePred ok] :
    Finset.fold max (⊥ : EReal) (fun x => s x + (if ok x then 0 else ⊥ : EReal)) Finset.univ * SC
      = Finset.fold max (⊥ : EReal) (fun x => if ok x then s x * SC else ⊥) Finset.univ := by
  obtain ⟨r, hr, h⟩ := SC_real
  have hb : (⊥ : EReal) * SC = ⊥ := by rw [h]; exact EReal.bot_mul_coe_of_pos hr
  have hm : Monotone fun x : EReal => x * SC := fun x y hxy => by
    rw [h]; exact mul_le_mul_of_nonneg_right hxy (EReal.coe_nonneg.mpr hr.le)
  rw [← Finset.fold_hom (op := max) (op' := max) (m := fun x : EReal => x * SC) (fun x y => hm.map_max)]
  simp only [hb]
  congr 1
  funext x
  split
  · rw [add_zero]
  · rw [EReal.add_bot, hb]

/-- The pairs of a rotary axis, the even members first and the odd ones after. -/
def prm (d : Fin 64) : Fin 64 := ⟨if d.val < 32 then 2 * d.val else 2 * (d.val - 32) + 1, by split <;> omega⟩

theorem sum_prm (f : Fin 64 → EReal) : ∑ r, f (prm r) = ∑ e, f e :=
  Function.Bijective.sum_comp (e := prm) ⟨by decide +kernel, by decide +kernel⟩ f

/-- A byte shifted into the exponent field of a float is that power of two. -/
theorem dec_sc (e : BitVec 8) (h1 : 1 ≤ e.toNat) (h2 : e.toNat ≤ 254) :
    Ideal.ofBits .f32 (IntOp.shli .vector (e.setWidth 32) 23#32) = sc e := by
  have hx : ∀ e : BitVec 8, (IntOp.shli .vector (e.setWidth 32) 23#32).extractLsb' 31 1 = 0#1
      ∧ (IntOp.shli .vector (e.setWidth 32) 23#32).extractLsb' 23 8 = e
      ∧ (IntOp.shli .vector (e.setWidth 32) 23#32).extractLsb' 0 23 = 0#23
      ∧ (e.setWidth 32 - 127#32).toInt = (e.toNat : ℤ) - 127 := by decide +kernel
  obtain ⟨ha, hb, hc, hd⟩ := hx e
  rw [f32_val _ ha (by rw [hb]; omega) (by rw [hb]; omega), hb, hc]
  unfold sc
  rw [hd, Ideal.exp2_coe]
  congr 1
  rw [show Real.rpow 2 (((e.toNat : ℤ) - 127 : ℤ) : ℝ) = (2 : ℝ) ^ (((e.toNat : ℤ) - 127 : ℤ)) from Real.rpow_intCast 2 _]
  rw [show ((e.toNat : ℤ) - 127 : ℤ) = ((e.toNat : ℤ) - 127 - 23) + (23 : ℕ) by push_cast; ring, zpow_add₀ (by norm_num), zpow_natCast]
  simp
  ring

end Cert.Spec

end
-- ==== Proof.Heads.lean ====
/- Every grid point's two heads, as the specification has them. -/
module

public import proofs.«01_k».proof.Proof.Reads
public import proofs.«01_k».proof.Proof.Sums

@[expose] public section

set_option maxRecDepth 16384

noncomputable section

namespace Cert.Spec

/-- Every scale's exponent byte is a normal float's. -/
def Normal (I : In) : Prop := (∀ o g, 1 ≤ (I.qe o g).toNat ∧ (I.qe o g).toNat ≤ 254) ∧ (∀ o g, 1 ≤ (I.ke o g).toNat ∧ (I.ke o g).toNat ≤ 254)

end Cert.Spec

namespace Cert.KernelIdeal.Value

open Cert.KernelIdeal Cert.KernelIdeal.Gen Cert.KernelIdeal.KIFrame Cert.KernelIdeal.Stage
open Idealize.ShloMosaic Idealize.ShloMosaic.TcCoe Idealize.ShloMosaic.Tactic

variable (m : (ℓ : Loc nD τ sig) → Buf (Elt Ideal) ℓ) (c : Dev nD)

theorem pt_min (n : ℕ) : min (pt n).val 47 = min n 47 := by show min (min n 48) 47 = _; omega

theorem neg_inf : Ideal.ofBits .f32 4286578688#32 = ⊥ := by
  show Ideal.ieee 8 23 4286578688#32 = ⊥
  unfold Ideal.ieee; dsimp only
  rw [if_pos (by decide), if_pos (by decide), if_pos (by decide)]

/-- A term of the sum, the spread scales picked out. -/
theorem qN_term (x : Vec Ideal S384x1536 .fp8e4m3) (e : Vec Ideal S48x384 .i8) (y : Vec Ideal S256x1536 .fp8e4m3) (s : Vec Ideal S12x256 .f32) (r : Fin 384) (l : Fin 256) (k : Fin 1536) :
    (deqQ x e spreadQ (ix3 (fi 12 (k.val / 128) (by omega)) r (fi 128 (k.val % 128) (by omega))) * cqT y s (ix2 k l) : EReal)
      = (x (ix2 r k) * dec (e (ix2 ⟨k.val / 32, by omega⟩ r))) * (y (ix2 l k) * s (ix2 ⟨k.val / 128, by omega⟩ l)) := by
  have hk : (fi 1536 (128 * (k.val / 128) + k.val % 128) (by omega) : Fin 1536) = k := Fin.ext (Nat.div_add_mod _ _)
  show ((x (ix2 r (fi 1536 (128 * (k.val / 128) + k.val % 128) (by omega)))
      * ∑ g : Fin 48, dec (e (ix2 g r)) * (if g.val = (fi 1536 (128 * (k.val / 128) + k.val % 128) (by omega) : Fin 1536).val / 32 then 1 else 0 : EReal))
      * (y (ix2 l k) * s (ix2 (fi 12 (k.val / 128) (by omega)) l)) : EReal) = _
  simp only [hk, Nat.div_add_mod]
  exact congrArg (fun z : EReal => (x (ix2 r k) * z) * (y (ix2 l k) * s (ix2 ⟨k.val / 128, by omega⟩ l)) : EReal → EReal)
    (Spec.sum_pick (fun g : Fin 48 => dec (e (ix2 g r))) ⟨k.val / 32, by omega⟩)

theorem qN_eq (hn : Spec.Normal (inK m c)) (n : ℕ) (r : Fin 384) (l : Fin 256) :
    qN m c n (ix2 r l) = Spec.Q (inK m c) l ⟨384 * min n 47 + r.val, by omega⟩ := by
  have hp := pt_min n
  unfold qN qB qT Spec.Q
  show (∑ k : Fin 1536, _ : EReal) = (∑ k : Fin 1536, _ : EReal)
  refine Finset.sum_congr rfl fun k _ => ?_
  refine (qN_term _ _ _ _ r l k).trans ?_
  rw [w11 m c (pt n) r k (by omega), w12 m c (pt n) r ⟨k.val / 32, by omega⟩ (by omega), w2, w3]
  simp only [hp]
  rw [dec, Spec.dec_sc _ (hn.1 _ _).1 (hn.1 _ _).2, mul_comm]

/-- A term of the sum, the spread scales picked out. -/
theorem kN_term (x : Vec Ideal S256x512 .fp8e4m3) (e : Vec Ideal S16x256 .i8) (y : Vec Ideal S256x512 .fp8e4m3) (s : Vec Ideal S4x256 .f32) (r : Fin 256) (l : Fin 256) (k : Fin 512) :
    (deqK x e spreadK (ix3 (fi 4 (k.val / 128) (by omega)) r (fi 128 (k.val % 128) (by omega))) * ckT y s (ix2 k l) : EReal)
      = (x (ix2 r k) * dec (e (ix2 ⟨k.val / 32, by omega⟩ r))) * (y (ix2 l k) * s (ix2 ⟨k.val / 128, by omega⟩ l)) := by
  have hk : (fi 512 (128 * (k.val / 128) + k.val % 128) (by omega) : Fin 512) = k := Fin.ext (Nat.div_add_mod _ _)
  show ((x (ix2 r (fi 512 (128 * (k.val / 128) + k.val % 128) (by omega)))
      * ∑ g : Fin 16, dec (e (ix2 g r)) * (if g.val = (fi 512 (128 * (k.val / 128) + k.val % 128) (by omega) : Fin 512).val / 32 then 1 else 0 : EReal))
      * (y (ix2 l k) * s (ix2 (fi 4 (k.val / 128) (by omega)) l)) : EReal) = _
  simp only [hk, Nat.div_add_mod]
  exact congrArg (fun z : EReal => (x (ix2 r k) * z) * (y (ix2 l k) * s (ix2 ⟨k.val / 128, by omega⟩ l)) : EReal → EReal)
    (Spec.sum_pick (fun g : Fin 16 => dec (e (ix2 g r))) ⟨k.val / 32, by omega⟩)

theorem kN_eq (hn : Spec.Normal (inK m c)) (n : ℕ) (r : Fin 256) (l : Fin 256) :
    kN m c n (ix2 r l) = Spec.Kn (inK m c) l ⟨256 * min n 47 + r.val, by omega⟩ := by
  have hp := pt_min n
  unfold kN kB kT Spec.Kn
  show (∑ k : Fin 512, _ : EReal) = (∑ k : Fin 512, _ : EReal)
  refine Finset.sum_congr rfl fun k _ => ?_
  refine (kN_term _ _ _ _ r l k).trans ?_
  rw [w13 m c (pt n) r k (by omega), w14 m c (pt n) r ⟨k.val / 32, by omega⟩ (by omega), w4, w5]
  simp only [hp]
  rw [dec, Spec.dec_sc _ (hn.2 _ _).1 (hn.2 _ _).2, mul_comm]

theorem rope_eq (hn : Spec.Normal (inK m c)) (n : ℕ) (h : ℕ) (hh : h < 2) (r : Fin 64) (l : Fin 256) :
    ropeV h hh (qN m c n) (iblk m c 7 (pt 0)) (iblk m c 8 (pt 0)) r l = Spec.rot (inK m c) l ⟨2 * min n 47 + h, by omega⟩ (Spec.prm r) := by
  unfold ropeV Spec.rot Spec.prm
  by_cases hr : r.val < 32
  · rw [dif_pos hr, if_pos (by simp only [if_pos hr]; omega), qN_eq m c hn, qN_eq m c hn, w7, w8]
    simp only [if_pos hr]
    have e : 2 * r.val / 2 = r.val := by omega
    refine congrArg₂ (fun a b : EReal => a - b) (congrArg₂ (fun a b : EReal => a * b) (congrArg _ (Fin.ext ?_)) (congrArg _ (Fin.ext ?_))) (congrArg₂ (fun a b : EReal => a * b) (congrArg _ (Fin.ext ?_)) (congrArg _ (Fin.ext ?_))) <;> simp only [fi] <;> omega
  · rw [dif_neg hr, if_neg (by simp only [if_neg hr]; omega), qN_eq m c hn, qN_eq m c hn, w7, w8]
    simp only [if_neg hr]
    have e : (2 * (r.val - 32) + 1) / 2 = r.val - 32 := by omega
    refine congrArg₂ (fun a b : EReal => a + b) (congrArg₂ (fun a b : EReal => a * b) (congrArg _ (Fin.ext ?_)) (congrArg _ (Fin.ext ?_))) (congrArg₂ (fun a b : EReal => a * b) (congrArg _ (Fin.ext ?_)) (congrArg _ (Fin.ext ?_))) <;> simp only [fi] <;> omega

theorem seq_eq (p : ℕ) : seqOf (iblk m c 0 (pt 0)) p = Spec.seqOf (inK m c) p := by
  unfold seqOf Spec.seqOf
  rw [w0, w0]

theorem score_eq (hn : Spec.Normal (inK m c)) (n : ℕ) (h : ℕ) (hh : h < 2) (l x : Fin 256) :
    (∑ d : Fin 128, kN m c n (ix2 (fi 256 (128 * h + d.val) (by omega)) x) * qN m c n (ix2 (fi 384 (192 * h + d.val) (by omega)) l)
      + ∑ r : Fin 64, kropeP (iblk m c 6 (pt 0)) (ix2 x r) * ropeV h hh (qN m c n) (iblk m c 7 (pt 0)) (iblk m c 8 (pt 0)) r l : EReal)
      = Spec.score (inK m c) ⟨2 * min n 47 + h, by omega⟩ l x := by
  unfold Spec.score
  refine congrArg₂ (fun a b : EReal => a + b) (Finset.sum_congr rfl fun d _ => ?_) ?_
  · rw [kN_eq m c hn, qN_eq m c hn, mul_comm]
    refine congrArg₂ (fun a b : EReal => a * b) (congrArg _ (Fin.ext ?_)) (congrArg _ (Fin.ext ?_)) <;> simp only [fi] <;> omega
  · rw [← Spec.sum_prm fun e => (inK m c).kr x e * Spec.rot (inK m c) l ⟨2 * min n 47 + h, by omega⟩ e]
    refine Finset.sum_congr rfl fun r _ => ?_
    rw [rope_eq m c hn]
    refine congrArg₂ (fun a b : EReal => a * b) ?_ rfl
    exact w6 m c (pt 0) x (Spec.prm r)

theorem rowN_eq (hn : Spec.Normal (inK m c)) (n : ℕ) (h : ℕ) (hh : h < 2) :
    rowN m c h hh n = Spec.row (inK m c) ⟨2 * min n 47 + h, by omega⟩ := by
  funext l
  unfold rowN rowV rawRow Spec.row
  rw [← Spec.masked_max (fun x => Spec.score (inK m c) ⟨2 * min n 47 + h, by omega⟩ l x) (fun x => x.val ≤ l.val ∧ Spec.seqOf (inK m c) x.val = Spec.seqOf (inK m c) l.val), neg_inf]
  refine congrArg (fun a : EReal => a * Spec.SC) (congrArg (fun f : Fin 256 → EReal => Finset.fold max (⊥ : EReal) f Finset.univ) (funext fun x => ?_))
  rw [score_eq m c hn]
  refine congrArg (fun a : EReal => Spec.score (inK m c) ⟨2 * min n 47 + h, by omega⟩ l x + a) ?_
  show (if x.val ≤ l.val ∧ seqOf (iblk m c 0 (pt 0)) x.val = seqOf (iblk m c 0 (pt 0)) l.val then (0 : EReal) else ⊥) = _
  rw [seq_eq, seq_eq]

theorem smaxN_eq (hn : Spec.Normal (inK m c)) (n : ℕ) (h : ℕ) (hh : h < 2) :
    smaxN m c h hh n = Spec.smax (inK m c) ⟨2 * min n 47 + h, by omega⟩ := by
  unfold smaxN smaxV Spec.smax
  rw [rowN_eq m c hn, neg_inf]

theorem gamN_eq (hn : Spec.Normal (inK m c)) (n : ℕ) (h : ℕ) (hh : h < 2) :
    gamN m c h hh n = Spec.gam (inK m c) ⟨2 * min n 47 + h, by omega⟩ := by
  unfold gamN gamV Spec.gam
  rw [smaxN_eq m c hn, w1]

end Cert.KernelIdeal.Value

end
-- ==== Proof.Final.lean ====
/- The arrays the run leaves, as the specification has them. -/
module

public import proofs.«01_k».proof.Proof.Heads

@[expose] public section

set_option maxRecDepth 16384

noncomputable section

namespace Cert.KernelIdeal.Value

open Cert.KernelIdeal Cert.KernelIdeal.Gen Cert.KernelIdeal.KIFrame Cert.KernelIdeal.Stage
open Idealize.ShloMosaic Idealize.ShloMosaic.TcCoe Idealize.ShloMosaic.Tactic

variable (m : (ℓ : Loc nD τ sig) → Buf (Elt Ideal) ℓ) (c : Dev nD)

theorem cur_pt (n : ℕ) : cur (grid0.coords (pt n)) = min n 47 := by
  have h : ∀ t : Fin grid0.N, cur (grid0.coords t) = min t.val 47 := by decide +kernel
  exact (h (pt n)).trans (pt_min n)

/-- Lanes replaced two at a time. -/
theorem lanes (f : Fin 96 → EReal) (A : ℕ → Vec Ideal S1x128 .f32) (h0 : A 0 = fun _ => (0 : EReal))
    (hs : ∀ n, A (n + 1) = laneUp (min n 47) (f ⟨2 * min n 47 + 0, by omega⟩) (f ⟨2 * min n 47 + 1, by omega⟩) (A n)) (n : ℕ) (j : S1x128.Idx) :
    A n j = (if h : (j 1).val < 2 * min n 48 then f ⟨(j 1).val, by omega⟩ else 0 : EReal) := by
  induction n with
  | zero => rw [h0, dif_neg (by omega)]
  | succ n ih =>
    rw [hs]; unfold laneUp
    by_cases h1 : (j 1).val = 2 * min n 47 + 1
    · rw [if_pos h1, dif_pos (by omega)]; exact congrArg f (Fin.ext h1.symm)
    · rw [if_neg h1]
      by_cases h2 : (j 1).val = 2 * min n 47
      · rw [if_pos h2, dif_pos (by omega)]; exact congrArg f (Fin.ext h2.symm)
      · rw [if_neg h2, ih]
        by_cases h3 : (j 1).val < 2 * min n 48
        · rw [dif_pos h3, dif_pos (by omega)]
        · rw [dif_neg h3, dif_neg (by omega)]

/-- Rows replaced two at a time. -/
theorem rows (f : Fin 96 → Fin 256 → EReal) (X : Vec Ideal S96x256 .f32) (A : ℕ → Vec Ideal S96x256 .f32) (h0 : A 0 = X)
    (hs : ∀ n, A (n + 1) = rowsUp (min n 47) (f ⟨2 * min n 47 + 0, by omega⟩) (f ⟨2 * min n 47 + 1, by omega⟩) (A n)) (n : ℕ) (j : S96x256.Idx) :
    A n j = (if h : (j 0).val < 2 * min n 48 then f ⟨(j 0).val, by omega⟩ (j 1) else X j : EReal) := by
  induction n with
  | zero => rw [h0, dif_neg (by omega)]
  | succ n ih =>
    rw [hs]; unfold rowsUp
    by_cases h1 : (j 0).val = 2 * min n 47 + 1
    · rw [if_pos h1, dif_pos (by omega)]; exact congrArg (fun a => f a (j 1)) (Fin.ext h1.symm)
    · rw [if_neg h1]
      by_cases h2 : (j 0).val = 2 * min n 47
      · rw [if_pos h2, dif_pos (by omega)]; exact congrArg (fun a => f a (j 1)) (Fin.ext h2.symm)
      · rw [if_neg h2, ih]
        by_cases h3 : (j 0).val < 2 * min n 48
        · rw [dif_pos h3, dif_pos (by omega)]
        · rw [dif_neg h3, dif_neg (by omega)]

/-- What the five results hold. -/
def G0 : Vec Ideal S1x128 .f32 := fun j => (if h : (j 1).val < 96 then Spec.smax (inK m c) ⟨(j 1).val, h⟩ else 0 : EReal)
def G1 : Vec Ideal S1x128 .f32 := fun j => (if h : (j 1).val < 96 then Spec.gam (inK m c) ⟨(j 1).val, h⟩ else 0 : EReal)
def G2 : Vec Ideal S96x256 .f32 := fun j => Spec.row (inK m c) (j 0) (j 1)
def G3 : Vec Ideal S18432x1536 .bf16 := fun j => Spec.wqn (inK m c) (j 0) (j 1)
def G4 : Vec Ideal S12288x512 .bf16 := fun j => Spec.wkn (inK m c) (j 0) (j 1)

variable (hn : Spec.Normal (inK m c))
include hn

theorem smaxA_fin : smaxA m c 49 = G0 m c := by
  funext j
  exact lanes (Spec.smax (inK m c)) (smaxA m c) rfl (fun n => by
    show laneUp _ _ _ _ = _
    rw [cur_pt, smaxN_eq m c hn, smaxN_eq m c hn]) 49 j

theorem gamA_fin : gamA m c 49 = G1 m c := by
  funext j
  exact lanes (Spec.gam (inK m c)) (gamA m c) rfl (fun n => by
    show laneUp _ _ _ _ = _
    rw [cur_pt, gamN_eq m c hn, gamN_eq m c hn]) 49 j

theorem rowsA_fin (X : Vec Ideal S96x256 .f32) : rowsA m c X 49 = G2 m c := by
  funext j
  rw [rows (Spec.row (inK m c)) X (rowsA m c X) rfl (fun n => by
    show rowsUp _ _ _ _ = _
    rw [cur_pt, rowN_eq m c hn, rowN_eq m c hn]) 49 j, dif_pos (by have := (j 0).isLt; simpa using this)]
  rfl

theorem clipA_row (n : ℕ) (a : Fin 8) (ha : a.val < 4) :
    clipA m c (n + 1) (ix2 a 0) = (if a.val % 2 = 0 then Ideal.sqrt (Spec.gam (inK m c) ⟨2 * min n 47 + a.val / 2, by omega⟩)
      else Spec.gam (inK m c) ⟨2 * min n 47 + a.val / 2, by omega⟩ : EReal) := by
  show clipUp _ _ _ (ix2 a 0) = _
  rw [gamN_eq m c hn, gamN_eq m c hn]
  show (if a.val = 3 then _ else if a.val = 2 then _ else if a.val = 1 then _ else if a.val = 0 then _ else _ : EReal) = _
  by_cases h3 : a.val = 3
  · rw [if_pos h3, if_neg (by omega)]; exact congrArg _ (Fin.ext (by simp only []; omega))
  by_cases h2 : a.val = 2
  · rw [if_neg h3, if_pos h2, if_pos (by omega)]; exact congrArg (fun z => Ideal.sqrt (Spec.gam (inK m c) z)) (Fin.ext (by simp only []; omega))
  by_cases h1 : a.val = 1
  · rw [if_neg h3, if_neg h2, if_pos h1, if_neg (by omega)]; exact congrArg _ (Fin.ext (by simp only []; omega))
  · rw [if_neg h3, if_neg h2, if_neg h1, if_pos (by omega), if_pos (by omega)]; exact congrArg (fun z => Ideal.sqrt (Spec.gam (inK m c) z)) (Fin.ext (by simp only []; omega))

end Cert.KernelIdeal.Value

end
-- ==== Proof.Arrays.lean ====
/- The run of the kernel, its results named. -/
module

public import proofs.«01_k».proof.Proof.Final
public import Idealize.ShloMosaic.Lib.Pipeline.ArrRel

@[expose] public section

set_option maxRecDepth 16384

noncomputable section

namespace Cert.KernelIdeal.Value

open Cert.KernelIdeal Cert.KernelIdeal.Gen Cert.KernelIdeal.KIFrame Cert.KernelIdeal.Stage
open Idealize.ShloMosaic Idealize.ShloMosaic.TcCoe Idealize.ShloMosaic.Tactic

variable (m : (ℓ : Loc nD τ sig) → Buf (Elt Ideal) ℓ) (ρ : Dev nD → PrngReg) (c : Dev nD)

theorem flush_pos : ∀ t : Fin cfg0.N, ((win0_18.flush t) = true → 1 ≤ t.val) ∧ ((win0_19.flush t) = true → 1 ≤ t.val) :=
  (by decide +kernel : ∀ t : Fin grid0.N, _)

theorem rescQ_apply (w : Vec Ideal S384x1536 .bf16) (cl : Vec Ideal S8x128 .f32) (a : Fin 384) (k : Fin 1536) :
    rescQ w cl (ix2 a k) = (w (ix2 a k) * cl (ix2 (fi 8 (rowQ (a.val / 64)) (rowQ_lt _)) 0) : EReal) := rfl

theorem rescK_apply (w : Vec Ideal S256x512 .bf16) (cl : Vec Ideal S8x128 .f32) (a : Fin 256) (k : Fin 512) :
    rescK w cl (ix2 a k) = (w (ix2 a k) * cl (ix2 (fi 8 (rowK (a.val / 64)) (rowK_lt _)) 0) : EReal) := rfl

variable (hn : Spec.Normal (inK m c))
include hn

theorem resc18 (t : Fin cfg0.N) (ht : 1 ≤ t.val) (a : Fin 384) (k : Fin 1536) (h : 384 * (t.val - 1) + a.val < 18432) :
    rescQ (iblk m c 9 t) (clipA m c t.val) (ix2 a k) = (Spec.wqn (inK m c) ⟨384 * (t.val - 1) + a.val, h⟩ k : EReal) := by
  have hl := lt49 t
  obtain ⟨n, hN⟩ : ∃ n, t.val = n + 1 := ⟨t.val - 1, by omega⟩
  have hr : ((fi 8 (rowQ (a.val / 64)) (rowQ_lt _) : Fin 8)).val < 4 := by show rowQ (a.val / 64) < 4; unfold rowQ; split; omega; split; omega; split <;> omega
  have hc := clipA_row m c hn n (fi 8 (rowQ (a.val / 64)) (rowQ_lt _)) hr
  have hb : n ≤ 47 := by omega
  have h1 : (384 * (t.val - 1) + a.val) / 192 = 2 * n + a.val / 192 := by omega
  have h2 : (384 * (t.val - 1) + a.val) % 192 = a.val % 192 := by omega
  rw [rescQ_apply, w9 m c t a k h, (congrArg (fun z => clipA m c z (ix2 (fi 8 (rowQ (a.val / 64)) (rowQ_lt _)) 0)) hN).trans hc]
  unfold Spec.wqn
  refine congrArg₂ (fun a b : EReal => a * b) rfl ?_
  have e : ∀ z : Fin 96, z.val = 2 * n + a.val / 192 → (⟨2 * min n 47 + rowQ (a.val / 64) / 2, by have hr' : rowQ (a.val / 64) < 4 := hr; omega⟩ : Fin 96) = z := fun z hz =>
    Fin.ext (by show 2 * min n 47 + rowQ (a.val / 64) / 2 = z.val; rw [hz]; unfold rowQ; split; omega; split; omega; split <;> omega)
  by_cases h3 : a.val % 192 < 128
  · rw [if_pos (show rowQ (a.val / 64) % 2 = 0 by unfold rowQ; split; omega; split; omega; split <;> omega), if_pos (by show (384 * (t.val - 1) + a.val) % 192 < 128; omega)]
    exact congrArg (fun z => Ideal.sqrt (Spec.gam (inK m c) z)) (e _ (by show (384 * (t.val - 1) + a.val) / 192 = _; omega))
  · rw [if_neg (show ¬ rowQ (a.val / 64) % 2 = 0 by unfold rowQ; split; omega; split; omega; split <;> omega), if_neg (by show ¬ (384 * (t.val - 1) + a.val) % 192 < 128; omega)]
    exact congrArg (fun z => Spec.gam (inK m c) z) (e _ (by show (384 * (t.val - 1) + a.val) / 192 = _; omega))

theorem resc19 (t : Fin cfg0.N) (ht : 1 ≤ t.val) (a : Fin 256) (k : Fin 512) (h : 256 * (t.val - 1) + a.val < 12288) :
    rescK (iblk m c 10 t) (clipA m c t.val) (ix2 a k) = (Spec.wkn (inK m c) ⟨256 * (t.val - 1) + a.val, h⟩ k : EReal) := by
  have hl := lt49 t
  obtain ⟨n, hN⟩ : ∃ n, t.val = n + 1 := ⟨t.val - 1, by omega⟩
  have hr : ((fi 8 (rowK (a.val / 64)) (rowK_lt _) : Fin 8)).val < 4 := by show rowK (a.val / 64) < 4; unfold rowK; split <;> omega
  have hc := clipA_row m c hn n (fi 8 (rowK (a.val / 64)) (rowK_lt _)) hr
  rw [rescK_apply, w10 m c t a k h, (congrArg (fun z => clipA m c z (ix2 (fi 8 (rowK (a.val / 64)) (rowK_lt _)) 0)) hN).trans hc]
  unfold Spec.wkn
  refine congrArg₂ (fun a b : EReal => a * b) rfl ?_
  rw [if_pos (show rowK (a.val / 64) % 2 = 0 by unfold rowK; split <;> omega)]
  exact congrArg (fun z => Ideal.sqrt (Spec.gam (inK m c) z)) (Fin.ext (by
    show 2 * min n 47 + rowK (a.val / 64) / 2 = (256 * (t.val - 1) + a.val) / 128
    unfold rowK; split <;> omega))

theorem arr15 : (dats m 0 c).arrAt 15 cfg0.N = G0 m c := by
  refine (dats m 0 c).arrAt_eq_of_after_last 15 (pt 48) (by decide +kernel) _ fun j => ?_
  blk_simp
  rw [after0_15]
  show smaxA m c 49 _ = _
  rw [smaxA_fin m c hn]

theorem arr16 : (dats m 0 c).arrAt 16 cfg0.N = G1 m c := by
  refine (dats m 0 c).arrAt_eq_of_after_last 16 (pt 48) (by decide +kernel) _ fun j => ?_
  blk_simp
  rw [after0_16]
  show gamA m c 49 _ = _
  rw [gamA_fin m c hn]

theorem arr18 : (dats m 0 c).arrAt 18 cfg0.N = G3 m c := by
  refine (dats m 0 c).arrAt_eq_of_covers 18 _ (by decide +kernel) fun t hf y => ?_
  have ht := (flush_pos t).1 hf
  have hl := lt49 t
  obtain ⟨a, k, rfl⟩ : ∃ (a : Fin 384) (k : Fin 1536), y = ix2 a k := ⟨y 0, y 1, by pointwise⟩
  blk_simp
  rw [after0_18]
  refine (resc18 m c hn t ht a k (by omega)).trans ?_
  have e : (win0_18.blk t).view.emb (ix2 a k) = ix2 ⟨384 * (t.val - 1) + a.val, by omega⟩ k := by blk_ext [idx t]
  exact congrArg (G3 m c) e.symm

theorem arr19 : (dats m 0 c).arrAt 19 cfg0.N = G4 m c := by
  refine (dats m 0 c).arrAt_eq_of_covers 19 _ (by decide +kernel) fun t hf y => ?_
  have ht := (flush_pos t).2 hf
  have hl := lt49 t
  obtain ⟨a, k, rfl⟩ : ∃ (a : Fin 256) (k : Fin 512), y = ix2 a k := ⟨y 0, y 1, by pointwise⟩
  blk_simp
  rw [after0_19]
  refine (resc19 m c hn t ht a k (by omega)).trans ?_
  have e : (win0_19.blk t).view.emb (ix2 a k) = ix2 ⟨256 * (t.val - 1) + a.val, by omega⟩ k := by blk_ext [idx t]
  exact congrArg (G4 m c) e.symm

theorem arr17 (G : Vec Ideal S96x256 .f32) (hG : (rdat m c).ArrAt 17 cfg0.N G) : G = G2 m c := by
  obtain ⟨X, hL, hX⟩ := hG.emb_eq_of_wholeAt (t₀ := pt 48) (by decide +kernel)
  obtain ⟨Y, hY, hR⟩ := hL
  obtain ⟨X0, rfl⟩ := (show ∃ X0, X = rowsA m c X0 49 from hR)
  funext j
  have e := hX j
  rw [rowsA_fin m c hn] at e
  exact e

end Cert.KernelIdeal.Value

end
-- ==== Proof.KRun.lean ====
/- The kernel's results. -/
module

public import proofs.«01_k».proof.Proof.Arrays

@[expose] public section

noncomputable section

namespace Cert.KernelIdeal.Value

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

theorem arr_of (c : Dev nD) (w : Fin cfg0.W) (hw : held0 w = false) (G) (h : (rdat m c).ArrAt w cfg0.N G) : G = (dats m 0 c).arrAt w cfg0.N :=
  ((dats m 0 c).toR_arrAt_iff w _ _).1 (((dats m 0 c).toR.override_arrAt (by simp only [hw]) _ _).1 h)

theorem results (hn : ∀ c, Spec.Normal (inK m c)) : θ_run defs (onTc (τ := τ) (main (F := Ideal))) ⟨m, fun _ => 0, ρ⟩ (fun r => ∀ c : Dev nD,
      r.2.mem ((c.tc : Thread nD τ).loc main_v8_0) = G0 m c
      ∧ r.2.mem ((c.tc : Thread nD τ).loc main_v8_1) = G1 m c
      ∧ r.2.mem ((c.tc : Thread nD τ).loc main_v8_2) = G2 m c
      ∧ r.2.mem ((c.tc : Thread nD τ).loc main_v8_3) = G3 m c
      ∧ r.2.mem ((c.tc : Thread nD τ).loc main_v8_4) = G4 m c) :=
  (θ_run defs _ _).mono (fun _ h c => ⟨(arr_of m c 15 rfl _ ((h c).1 15)).trans (arr15 m c (hn c)), (arr_of m c 16 rfl _ ((h c).1 16)).trans (arr16 m c (hn c)),
    arr17 m c (hn c) _ ((h c).1 17),
    (arr_of m c 18 rfl _ ((h c).1 18)).trans (arr18 m c (hn c)), (arr_of m c 19 rfl _ ((h c).1 19)).trans (arr19 m c (hn c))⟩) (run_main m ρ)

end Cert.KernelIdeal.Value

end
-- ==== Proof.Pre.lean ====
/- The precondition says that no exponent byte is 0 or 255. -/
module

public import proofs.«01_k».proof.Defs
public import proofs.«01_k».proof.Proof.Heads
public import proofs.«01_k».proof.Proof.Final
public import proofs.«01_k».proof.Proof.Gen.Pre_normal_exponents
public import Idealize.ShloMosaic.Lib.ReduceAll

@[expose] public section

noncomputable section

namespace Cert.KernelIdeal.Value

open Cert.KernelIdeal Cert.KernelIdeal.Gen
open Idealize.ShloMosaic Idealize.ShloMosaic.TcCoe Idealize.ShloMosaic.Tactic

theorem byte_range : ∀ b : BitVec 8, IntOp.andi (IntOp.cmpi .sge (b.setWidth 32) 1#32) (IntOp.cmpi .sle (b.setWidth 32) 254#32) = 1#1 → 1 ≤ b.toNat ∧ b.toNat ≤ 254 := by
  decide +kernel

theorem and_split : ∀ a b : BitVec 1, IntOp.andi a b = 1#1 → a = 1#1 ∧ b = 1#1 := by decide

variable (m : (ℓ : Loc nD τ sig) → Buf (Elt Ideal) ℓ) (c : Dev nD)

instance : Subsingleton Cert.Pre_normal_exponents.S_.Idx := ⟨fun a b => funext fun x => x.elim0⟩

theorem normal_of (h : Cert.Pre_KernelIdeal_normal_exponents (hPre_normal_exponents := Cert.Pre_normal_exponents.Gen.facts) m) : Spec.Normal (inK m c) := by
  have h0 := congrFun (h c) (fun a => a.elim0)
  dsimp only [Cert.Pre_normal_exponents.fn] at h0
  obtain ⟨ha, hb⟩ := and_split _ _ h0
  refine ⟨fun o g => byte_range _ ?_, fun o g => byte_range _ ?_⟩
  · exact Host.reduce_andi_all _ _ _ _ _ ha (ix2 o g)
  · exact Host.reduce_andi_all _ _ _ _ _ hb (ix2 o g)

end Cert.KernelIdeal.Value

end
-- ==== Proof.RefScores.lean ====
/- The reference's scores are the specified ones. -/
module

public import proofs.«01_k».proof.Proof.Gen.ReferenceIdeal.Read
public import proofs.«01_k».proof.Proof.Spec
public import Idealize.ShloMosaic.Lib.Claim
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic

/-- The arrays the reference's later operations read hold the arguments. -/
structure Holds (I : Spec.In) (x1 : Vec Ideal S256x12 .f32) (x3 : Vec Ideal S256x4 .f32) (x4 : Vec Ideal S256x64 .bf16) (x5 : Vec Ideal S3 .i32)
    (x6 x7 : Vec Ideal S256x32 .f32) (r0 : Vec Ideal S256x1536 .bf16) (r1 : Vec Ideal S256x512 .bf16) (r2 : Vec Ideal S18432x1536 .bf16)
    (r3 : Vec Ideal S18432x48 .f32) (r4 : Vec Ideal S12288x512 .bf16) (r5 : Vec Ideal S12288x16 .f32) : Prop where
  x1 : ∀ t k, x1 (ix2 t k) = I.cqs t k
  x3 : ∀ t k, x3 (ix2 t k) = I.cks t k
  x4 : ∀ t k, x4 (ix2 t k) = I.kr t k
  x5 : ∀ k, x5 (ix1 k) = I.cu k
  x6 : ∀ t k, x6 (ix2 t k) = I.cs t k
  x7 : ∀ t k, x7 (ix2 t k) = I.sn t k
  r0 : ∀ t k, r0 (ix2 t k) = I.cq t k
  r1 : ∀ t k, r1 (ix2 t k) = I.ck t k
  r2 : ∀ t k, r2 (ix2 t k) = I.qc t k
  r3 : ∀ t k, r3 (ix2 t k) = Spec.sc (I.qe t k)
  r4 : ∀ t k, r4 (ix2 t k) = I.kc t k
  r5 : ∀ t k, r5 (ix2 t k) = Spec.sc (I.ke t k)

variable {I : Spec.In} {x1 : Vec Ideal S256x12 .f32} {x3 : Vec Ideal S256x4 .f32} {x4 : Vec Ideal S256x64 .bf16} {x5 : Vec Ideal S3 .i32}
    {x6 x7 : Vec Ideal S256x32 .f32} {r0 : Vec Ideal S256x1536 .bf16} {r1 : Vec Ideal S256x512 .bf16} {r2 : Vec Ideal S18432x1536 .bf16}
    {r3 : Vec Ideal S18432x48 .f32} {r4 : Vec Ideal S12288x512 .bf16} {r5 : Vec Ideal S12288x16 .f32}

theorem ix2_of {a b : ℕ} (i : Shape.Idx ⟨2, ![a, b]⟩) (x : Fin a) (y : Fin b) (h0 : (i 0).val = x.val) (h1 : (i 1).val = y.val) : i = ix2 x y := by
  funext d
  match d with
  | ⟨0, _⟩ => exact Fin.ext h0
  | ⟨1, _⟩ => exact Fin.ext h1

theorem ix3_of {a b d : ℕ} (i : Shape.Idx ⟨3, ![a, b, d]⟩) (x : Fin a) (y : Fin b) (z : Fin d) (h0 : (i 0).val = x.val) (h1 : (i 1).val = y.val)
    (h2 : (i 2).val = z.val) : i = ix3 x y z := by
  funext d
  match d with
  | ⟨0, _⟩ => exact Fin.ext h0
  | ⟨1, _⟩ => exact Fin.ext h1
  | ⟨2, _⟩ => exact Fin.ext h2

variable (H : Holds I x1 x3 x4 x5 x6 x7 r0 r1 r2 r3 r4 r5)
include H

theorem v6_eq (t : Fin 256) (k : Fin 1536) : val_main_v6 (F := Ideal) x1 r0 (ix2 t k) = (I.cq t k * I.cqs t ⟨k.val / 128, by omega⟩ : EReal) := by
  have hk : k.val < 1536 := k.isLt
  rw [val_main_v6_apply, val_main_v5_apply, val_main_v1_apply, val_main_v4_apply, val_main_v3_apply, val_main_v2_apply]
  refine congrArg₂ (fun a b : EReal => a * b) ((congrArg r0 (ix2_of _ t k ?_ ?_)).trans (H.r0 _ _)) ((congrArg x1 (ix2_of _ t ⟨k.val / 128, by omega⟩ ?_ ?_)).trans (H.x1 _ _))
    <;> simp only [idx_main_v6, idx_main_v1, idx_main_v4, idx_main_v3, ix2] <;> omega

theorem v12_eq (o : Fin 18432) (k : Fin 1536) : val_main_v12 (F := Ideal) r2 r3 (ix2 o k) = (I.qc o k * Spec.sc (I.qe o ⟨k.val / 32, by omega⟩) : EReal) := by
  have hk : k.val < 1536 := k.isLt
  rw [val_main_v12_apply, val_main_v11_apply, val_main_v7_apply, val_main_v10_apply, val_main_v9_apply, val_main_v8_apply]
  refine congrArg₂ (fun a b : EReal => a * b) ((congrArg r2 (ix2_of _ o k ?_ ?_)).trans (H.r2 _ _)) ((congrArg r3 (ix2_of _ o ⟨k.val / 32, by omega⟩ ?_ ?_)).trans (H.r3 _ _))
    <;> simp only [idx_main_v12, idx_main_v7, idx_main_v10, idx_main_v9, ix2] <;> omega

theorem v20_eq (t : Fin 256) (k : Fin 512) : val_main_v20 (F := Ideal) x3 r1 (ix2 t k) = (I.ck t k * I.cks t ⟨k.val / 128, by omega⟩ : EReal) := by
  have hk : k.val < 512 := k.isLt
  rw [val_main_v20_apply, val_main_v19_apply, val_main_v15_apply, val_main_v18_apply, val_main_v17_apply, val_main_v16_apply]
  refine congrArg₂ (fun a b : EReal => a * b) ((congrArg r1 (ix2_of _ t k ?_ ?_)).trans (H.r1 _ _)) ((congrArg x3 (ix2_of _ t ⟨k.val / 128, by omega⟩ ?_ ?_)).trans (H.x3 _ _))
    <;> simp only [idx_main_v20, idx_main_v15, idx_main_v18, idx_main_v17, ix2] <;> omega

theorem v26_eq (o : Fin 12288) (k : Fin 512) : val_main_v26 (F := Ideal) r4 r5 (ix2 o k) = (I.kc o k * Spec.sc (I.ke o ⟨k.val / 32, by omega⟩) : EReal) := by
  have hk : k.val < 512 := k.isLt
  rw [val_main_v26_apply, val_main_v25_apply, val_main_v21_apply, val_main_v24_apply, val_main_v23_apply, val_main_v22_apply]
  refine congrArg₂ (fun a b : EReal => a * b) ((congrArg r4 (ix2_of _ o k ?_ ?_)).trans (H.r4 _ _)) ((congrArg r5 (ix2_of _ o ⟨k.val / 32, by omega⟩ ?_ ?_)).trans (H.r5 _ _))
    <;> simp only [idx_main_v26, idx_main_v21, idx_main_v24, idx_main_v23, ix2] <;> omega

theorem v13_eq (t : Fin 256) (o : Fin 18432) : val_main_v13 (F := Ideal) x1 r0 r2 r3 (ix2 t o) = Spec.Q I t o := by
  rw [val_main_v13_apply]
  unfold Spec.Q
  exact Finset.sum_congr rfl fun k _ => congrArg₂ (fun a b : EReal => a * b)
    ((congrArg _ (ix2_of _ t k rfl rfl)).trans (v6_eq H t k)) ((congrArg _ (ix2_of _ o k rfl rfl)).trans (v12_eq H o k))

theorem v27_eq (t : Fin 256) (o : Fin 12288) : val_main_v27 (F := Ideal) x3 r1 r4 r5 (ix2 t o) = Spec.Kn I t o := by
  rw [val_main_v27_apply]
  unfold Spec.Kn
  exact Finset.sum_congr rfl fun k _ => congrArg₂ (fun a b : EReal => a * b)
    ((congrArg _ (ix2_of _ t k rfl rfl)).trans (v20_eq H t k)) ((congrArg _ (ix2_of _ o k rfl rfl)).trans (v26_eq H o k))

theorem v14_eq (t : Fin 256) (h : Fin 96) (d : Fin 192) (o : Fin 18432) (ho : o.val = 192 * h.val + d.val) :
    val_main_v14 (F := Ideal) x1 r0 r2 r3 (ix3 t h d) = Spec.Q I t o := by
  have hd : d.val < 192 := d.isLt
  rw [val_main_v14_apply]
  refine (congrArg _ (ix2_of _ t o ?_ ?_)).trans (v13_eq H t o) <;> simp only [idx_main_v14, ix3] <;> omega

theorem v51_eq (t : Fin 256) (h : Fin 96) (d : Fin 128) : val_main_v51 (F := Ideal) x3 r1 r4 r5 (ix3 t h d) = Spec.Kn I t ⟨128 * h.val + d.val, by omega⟩ := by
  have hd : d.val < 128 := d.isLt
  rw [val_main_v51_apply, val_main_v28_apply]
  refine (congrArg _ (ix2_of _ t ⟨128 * h.val + d.val, by omega⟩ ?_ ?_)).trans (v27_eq H t _)
  · have hh : h.val < 96 := h.isLt
    show ((t.val * 96 + h.val) * 128 + d.val) / 12288 = t.val
    omega
  · have hh : h.val < 96 := h.isLt
    show ((t.val * 96 + h.val) * 128 + d.val) % 12288 = 128 * h.val + d.val
    omega

theorem v50_eq (t : Fin 256) (h : Fin 96) (d : Fin 128) : val_main_v50 (F := Ideal) x1 r0 r2 r3 (ix3 t h d) = Spec.Q I t ⟨192 * h.val + d.val, by omega⟩ := by
  rw [val_main_v50_apply, val_main_v49_apply]
  exact (congrArg _ (ix3_of _ t h ⟨d.val, by omega⟩ rfl rfl rfl)).trans (v14_eq H t h _ _ rfl)

theorem v29_eq (t : Fin 256) (h : Fin 96) (e : Fin 64) : val_main_v29 (F := Ideal) x1 r0 r2 r3 (ix3 t h e) = Spec.Q I t ⟨192 * h.val + 128 + e.val, by omega⟩ := by
  rw [val_main_v29_apply]
  exact (congrArg _ (ix3_of _ t h ⟨128 + e.val, by omega⟩ rfl rfl rfl)).trans (v14_eq H t h _ _ (by show 192 * h.val + 128 + e.val = 192 * h.val + (128 + e.val); omega))

omit H in
theorem v30_at (t : Fin 256) (h : Fin 96) (e : Fin 32) : val_main_v30 (F := Ideal) x1 r0 r2 r3 (ix3 t h e) = val_main_v29 (F := Ideal) x1 r0 r2 r3 (ix3 t h ⟨2 * e.val, by omega⟩) := by
  unfold val_main_v30
  generalize val_main_v29 (F := Ideal) x1 r0 r2 r3 = y
  pointwise
omit H in
theorem v31_at (t : Fin 256) (h : Fin 96) (e : Fin 32) : val_main_v31 (F := Ideal) x1 r0 r2 r3 (ix3 t h e) = val_main_v29 (F := Ideal) x1 r0 r2 r3 (ix3 t h ⟨1 + 2 * e.val, by omega⟩) := by
  unfold val_main_v31
  generalize val_main_v29 (F := Ideal) x1 r0 r2 r3 = y
  pointwise

end Cert.ReferenceIdeal.Read

end
-- ==== Proof.RefRot.lean ====
/- The reference's rotated queries, sequences and scores. -/
module

public import proofs.«01_k».proof.Proof.RefScores
public import Idealize.ShloMosaic.Lib.Pipeline.Value
public import Idealize.ShloMosaic.PureOps.Reduce

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic

variable {I : Spec.In} {x1 : Vec Ideal S256x12 .f32} {x3 : Vec Ideal S256x4 .f32} {x4 : Vec Ideal S256x64 .bf16} {x5 : Vec Ideal S3 .i32}
    {x6 x7 : Vec Ideal S256x32 .f32} {r0 : Vec Ideal S256x1536 .bf16} {r1 : Vec Ideal S256x512 .bf16} {r2 : Vec Ideal S18432x1536 .bf16}
    {r3 : Vec Ideal S18432x48 .f32} {r4 : Vec Ideal S12288x512 .bf16} {r5 : Vec Ideal S12288x16 .f32}

variable (H : Holds I x1 x3 x4 x5 x6 x7 r0 r1 r2 r3 r4 r5)
include H

theorem even_eq (t : Fin 256) (h : Fin 96) (e : Fin 32) :
    val_main_v30 (F := Ideal) x1 r0 r2 r3 (ix3 t h e) = Spec.Q I t ⟨192 * h.val + 128 + 2 * e.val, by omega⟩ :=
  (v30_at t h e).trans (v29_eq H t h _)
theorem odd_eq (t : Fin 256) (h : Fin 96) (e : Fin 32) :
    val_main_v31 (F := Ideal) x1 r0 r2 r3 (ix3 t h e) = Spec.Q I t ⟨192 * h.val + 128 + (2 * e.val + 1), by omega⟩ :=
  ((v31_at t h e).trans (v29_eq H t h _)).trans (congrArg (Spec.Q I t) (Fin.ext (by show 192 * h.val + 128 + (1 + 2 * e.val) = 192 * h.val + 128 + (2 * e.val + 1); omega)))

theorem cos34 (t : Fin 256) (h : Fin 96) (e : Fin 32) : val_main_v34 (F := Ideal) x6 (ix3 t h e) = I.cs t e := by
  rw [val_main_v34_apply, val_main_v32_apply]
  exact (congrArg x6 (ix2_of _ t e rfl rfl)).trans (H.x6 t e)
theorem cos41 (t : Fin 256) (h : Fin 96) (e : Fin 32) : val_main_v41 (F := Ideal) x6 (ix3 t h e) = I.cs t e := by
  rw [val_main_v41_apply, val_main_v32_apply]
  exact (congrArg x6 (ix2_of _ t e rfl rfl)).trans (H.x6 t e)
theorem sin36 (t : Fin 256) (h : Fin 96) (e : Fin 32) : val_main_v36 (F := Ideal) x7 (ix3 t h e) = I.sn t e := by
  rw [val_main_v36_apply, val_main_v33_apply]
  exact (congrArg x7 (ix2_of _ t e rfl rfl)).trans (H.x7 t e)
theorem sin39 (t : Fin 256) (h : Fin 96) (e : Fin 32) : val_main_v39 (F := Ideal) x7 (ix3 t h e) = I.sn t e := by
  rw [val_main_v39_apply, val_main_v33_apply]
  exact (congrArg x7 (ix2_of _ t e rfl rfl)).trans (H.x7 t e)

theorem v38_eq (t : Fin 256) (h : Fin 96) (e : Fin 32) : val_main_v38 (F := Ideal) x1 x6 x7 r0 r2 r3 (ix3 t h e)
    = (Spec.Q I t ⟨192 * h.val + 128 + 2 * e.val, by omega⟩ * I.cs t e - Spec.Q I t ⟨192 * h.val + 128 + (2 * e.val + 1), by omega⟩ * I.sn t e : EReal) := by
  rw [val_main_v38_apply, val_main_v35_apply, val_main_v37_apply, even_eq H, odd_eq H, cos34 H, sin36 H]
  rfl
theorem v43_eq (t : Fin 256) (h : Fin 96) (e : Fin 32) : val_main_v43 (F := Ideal) x1 x6 x7 r0 r2 r3 (ix3 t h e)
    = (Spec.Q I t ⟨192 * h.val + 128 + 2 * e.val, by omega⟩ * I.sn t e + Spec.Q I t ⟨192 * h.val + 128 + (2 * e.val + 1), by omega⟩ * I.cs t e : EReal) := by
  rw [val_main_v43_apply, val_main_v40_apply, val_main_v42_apply, even_eq H, odd_eq H, cos41 H, sin39 H]
  rfl

omit H in
theorem v46_left (i : S256x96x32x2.Idx) (t : Fin 256) (h : Fin 96) (e : Fin 32) (h0 : (i 0).val = t.val) (h1 : (i 1).val = h.val) (h2 : (i 2).val = e.val) (h3 : (i 3).val = 0) :
    val_main_v46 (F := Ideal) x1 x6 x7 r0 r2 r3 i = val_main_v38 (F := Ideal) x1 x6 x7 r0 r2 r3 (ix3 t h e) := by
  unfold val_main_v46
  refine (concatenate_pair_apply_left (t := S256x96x32x2) (s₁ := S256x96x32x1) (s₂ := S256x96x32x1) 3 (val_main_v44 (F := Ideal) x1 x6 x7 r0 r2 r3) (val_main_v45 (F := Ideal) x1 x6 x7 r0 r2 r3) concatenates_S256x96x32x1_S256x96x32x1_S256x96x32x2_d3 i rfl (ix4 t h e 0) ?_).trans ?_
  · intro b
    match b with
    | ⟨0, _⟩ => exact h0.symm
    | ⟨1, _⟩ => exact h1.symm
    | ⟨2, _⟩ => exact h2.symm
    | ⟨3, _⟩ => exact h3.symm
  · rw [val_main_v44_apply]
    exact congrArg _ (ix3_of _ t h e rfl rfl rfl)
omit H in
theorem v46_right (i : S256x96x32x2.Idx) (t : Fin 256) (h : Fin 96) (e : Fin 32) (h0 : (i 0).val = t.val) (h1 : (i 1).val = h.val) (h2 : (i 2).val = e.val) (h3 : (i 3).val = 1) :
    val_main_v46 (F := Ideal) x1 x6 x7 r0 r2 r3 i = val_main_v43 (F := Ideal) x1 x6 x7 r0 r2 r3 (ix3 t h e) := by
  unfold val_main_v46
  refine (concatenate_pair_apply_right (t := S256x96x32x2) (s₁ := S256x96x32x1) (s₂ := S256x96x32x1) 3 (val_main_v44 (F := Ideal) x1 x6 x7 r0 r2 r3) (val_main_v45 (F := Ideal) x1 x6 x7 r0 r2 r3) concatenates_S256x96x32x1_S256x96x32x1_S256x96x32x2_d3 i rfl rfl (ix4 t h e 0) ?_ ?_).trans ?_
  · intro b hb
    match b, hb with
    | ⟨0, _⟩, _ => exact h0.symm
    | ⟨1, _⟩, _ => exact h1.symm
    | ⟨2, _⟩, _ => exact h2.symm
    | ⟨3, _⟩, hb => exact absurd rfl hb
  · exact h3.symm
  · rw [val_main_v45_apply]
    exact congrArg _ (ix3_of _ t h e rfl rfl rfl)

theorem v47_eq (t : Fin 256) (h : Fin 96) (e : Fin 64) : val_main_v47 (F := Ideal) x1 x6 x7 r0 r2 r3 (ix3 t h e) = Spec.rot I t h e := by
  have ht : t.val < 256 := t.isLt
  have hh : h.val < 96 := h.isLt
  have he : e.val < 64 := e.isLt
  rw [val_main_v47_apply]
  have a0 : ((idx_main_v47 (ix3 t h e)) 0).val = t.val := by show ((t.val * 96 + h.val) * 64 + e.val) / 6144 = t.val; omega
  have a1 : ((idx_main_v47 (ix3 t h e)) 1).val = h.val := by show ((t.val * 96 + h.val) * 64 + e.val) / 64 % 96 = h.val; omega
  have a2 : ((idx_main_v47 (ix3 t h e)) 2).val = e.val / 2 := by show ((t.val * 96 + h.val) * 64 + e.val) / 2 % 32 = e.val / 2; omega
  have a3 : ((idx_main_v47 (ix3 t h e)) 3).val = e.val % 2 := by show ((t.val * 96 + h.val) * 64 + e.val) % 2 = e.val % 2; omega
  unfold Spec.rot
  by_cases hp : e.val % 2 = 0
  · rw [if_pos hp]
    exact (v46_left _ t h ⟨e.val / 2, by omega⟩ a0 a1 a2 (a3.trans hp)).trans (v38_eq H t h _)
  · rw [if_neg hp]
    exact (v46_right _ t h ⟨e.val / 2, by omega⟩ a0 a1 a2 (a3.trans (by omega))).trans (v43_eq H t h _)

theorem v64_eq (h : Fin 96) (q k : Fin 256) : val_main_v64 (F := Ideal) x1 x3 x4 x6 x7 r0 r1 r2 r3 r4 r5 (ix3 h q k) = Spec.score I h q k := by
  rw [val_main_v64_apply, val_main_v61_apply, val_main_v63_apply, val_main_v62_apply]
  unfold Spec.score
  refine congrArg₂ (fun a b : EReal => a + b) (Finset.sum_congr rfl fun d _ => congrArg₂ (fun a b : EReal => a * b) ?_ ?_)
    (Finset.sum_congr rfl fun e _ => congrArg₂ (fun a b : EReal => a * b) ?_ ?_)
  · exact (congrArg _ (ix3_of _ q h d rfl rfl rfl)).trans (v50_eq H q h d)
  · exact (congrArg _ (ix3_of _ k h d rfl rfl rfl)).trans (v51_eq H k h d)
  · exact (congrArg x4 (ix2_of _ k e rfl rfl)).trans (H.x4 k e)
  · rw [val_main_v48_apply]
    exact (congrArg _ (ix3_of _ q h e rfl rfl rfl)).trans (v47_eq H q h e)

theorem v59_eq (p : Fin 256) (k : Fin 2) : val_main_v59 (F := Ideal) x5 (ix2 p k) = if (I.cu ⟨1 + k.val, by omega⟩).sle (BitVec.ofNat 32 p.val) then 1#32 else 0#32 := by
  rw [val_main_v59_apply, val_main_v58_apply, val_main_v56_apply, val_main_v54_apply, val_main_v53_apply, val_main_v57_apply, val_main_v55_apply, val_main_v52_apply]
  have e' : idx_main_v53 (idx_main_v54 (idx_main_v56 (ix2 p k))) = ix1 ⟨1 + k.val, by omega⟩ := funext fun d => match d with | ⟨0, _⟩ => rfl
  have e : x5 (idx_main_v53 (idx_main_v54 (idx_main_v56 (ix2 p k)))) = I.cu ⟨1 + k.val, by omega⟩ := (congrArg x5 e').trans (H.x5 ⟨1 + k.val, by omega⟩)
  rw [e]
  show (BitVec.ofBool ((I.cu ⟨1 + k.val, by omega⟩).sle (BitVec.ofNat 32 p.val))).setWidth 32 = _
  cases (I.cu ⟨1 + k.val, by omega⟩).sle (BitVec.ofNat 32 p.val) <;> rfl

theorem v60_eq (p : Fin 256) : val_main_v60 (F := Ideal) x5 (ix1 p) = Spec.seqOf I p.val := by
  have e0 := v59_eq H p 0
  have e1 := v59_eq H p 1
  unfold val_main_v60 Spec.seqOf
  revert e0 e1
  generalize val_main_v59 (F := Ideal) x5 = y
  intro e0 e1
  refine Eq.trans ?_ (congrArg₂ (fun a b : BitVec 32 => a + b) e0 e1)
  have hc : val_main_c (F := Ideal) = fun _ => 0#32 := rfl
  rw [hc]
  pointwise
  rw [show (Finset.univ : Finset (Fin 2)) = {0, 1} from rfl, Finset.fold_insert (by decide), Finset.fold_singleton]
  show y _ + (y _ + 0#32) = _
  rw [BitVec.add_zero]

end Cert.ReferenceIdeal.Read

end
-- ==== Proof.RefRows.lean ====
/- The reference's row maxima, their maxima, the factors and the rescaled weights. -/
module

public import proofs.«01_k».proof.Proof.RefRot
public import Idealize.ShloMosaic.Lib.KernelVsHost

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic

variable {I : Spec.In} {x1 : Vec Ideal S256x12 .f32} {x3 : Vec Ideal S256x4 .f32} {x4 : Vec Ideal S256x64 .bf16} {x5 : Vec Ideal S3 .i32}
    {x6 x7 : Vec Ideal S256x32 .f32} {r0 : Vec Ideal S256x1536 .bf16} {r1 : Vec Ideal S256x512 .bf16} {r2 : Vec Ideal S18432x1536 .bf16}
    {r3 : Vec Ideal S18432x48 .f32} {r4 : Vec Ideal S12288x512 .bf16} {r5 : Vec Ideal S12288x16 .f32}
    {x8 : Vec Ideal S18432x1536 .bf16} {x9 : Vec Ideal S12288x512 .bf16} {x14 : Vec Ideal S_ .f32}

theorem bot_bits : Ideal.ofBits .f32 4286578688#32 = (⊥ : EReal) := by
  show Ideal.ieee 8 23 4286578688#32 = ⊥
  unfold Ideal.ieee; dsimp only
  rw [if_pos (by decide), if_pos (by decide), if_pos (by decide)]

theorem one_bits : Ideal.ofBits .f32 1065353216#32 = (1 : EReal) := by
  pointwise

theorem sle_ofNat (a b : Fin 256) : (BitVec.ofNat 32 a.val).sle (BitVec.ofNat 32 b.val) = decide (a.val ≤ b.val) := by
  have h : ∀ a : Fin 256, (BitVec.ofNat 32 a.val).toInt = (a.val : ℤ) := by decide +kernel
  unfold BitVec.sle
  rw [h, h]
  simp only [Nat.cast_le]

theorem slt_ofNat (a : Fin 192) : (BitVec.ofNat 32 a.val).slt 128#32 = decide (a.val < 128) := by
  revert a
  decide +kernel

theorem ix1_of {a : ℕ} (i : Shape.Idx ⟨1, ![a]⟩) (x : Fin a) (h0 : (i 0).val = x.val) : i = ix1 x := by
  funext d
  match d with
  | ⟨0, _⟩ => exact Fin.ext h0

variable (H : Holds I x1 x3 x4 x5 x6 x7 r0 r1 r2 r3 r4 r5)

include H

theorem v77_eq (q k : Fin 256) : val_main_v77 (F := Ideal) x5 (ix2 q k) = BitVec.ofBool (decide (k.val ≤ q.val) && decide (Spec.seqOf I k.val = Spec.seqOf I q.val)) := by
  have e1 : val_main_v69 (F := Ideal) (ix2 q k) = BitVec.ofNat 32 k.val := by
    rw [val_main_v69_apply, val_main_v67_apply, val_main_v52_apply]; rfl
  have e2 : val_main_v70 (F := Ideal) (ix2 q k) = BitVec.ofNat 32 q.val := by
    rw [val_main_v70_apply, val_main_v68_apply, val_main_v52_apply]; rfl
  have e3 : val_main_v74 (F := Ideal) x5 (ix2 q k) = Spec.seqOf I k.val := by
    rw [val_main_v74_apply, val_main_v72_apply]
    exact (congrArg _ (ix1_of _ k rfl)).trans (v60_eq H k)
  have e4 : val_main_v75 (F := Ideal) x5 (ix2 q k) = Spec.seqOf I q.val := by
    rw [val_main_v75_apply, val_main_v73_apply]
    exact (congrArg _ (ix1_of _ q rfl)).trans (v60_eq H q)
  rw [val_main_v77_apply, val_main_v71_apply, val_main_v76_apply, e1, e2, e3, e4]
  show BitVec.ofBool ((BitVec.ofNat 32 k.val).sle (BitVec.ofNat 32 q.val)) &&& BitVec.ofBool (Spec.seqOf I k.val == Spec.seqOf I q.val) = _
  rw [sle_ofNat]
  generalize Spec.seqOf I k.val = a
  generalize Spec.seqOf I q.val = b
  have : (a == b) = decide (a = b) := by by_cases h : a = b <;> simp [h]
  rw [this]
  cases decide (k.val ≤ q.val) <;> cases decide (a = b) <;> rfl

theorem v79_eq (h : Fin 96) (q k : Fin 256) : val_main_v79 (F := Ideal) x1 x3 x4 x5 x6 x7 r0 r1 r2 r3 r4 r5 (ix3 h q k)
    = (if k.val ≤ q.val ∧ Spec.seqOf I k.val = Spec.seqOf I q.val then Spec.score I h q k * Spec.SC else ⊥ : EReal) := by
  have e1 : val_main_call0_v1 (F := Ideal) x5 (ix3 h q k) = BitVec.ofBool (decide (k.val ≤ q.val) && decide (Spec.seqOf I k.val = Spec.seqOf I q.val)) := by
    rw [val_main_call0_v1_apply, val_main_v78_apply]
    exact (congrArg _ (ix2_of _ q k rfl rfl)).trans (v77_eq H q k)
  have e2 : val_main_call0_v2 (F := Ideal) (ix3 h q k) = (⊥ : EReal) := by
    rw [val_main_call0_v2_apply]
    exact bot_bits
  have e3 : val_main_v66 (F := Ideal) x1 x3 x4 x6 x7 r0 r1 r2 r3 r4 r5 (ix3 h q k) = (Spec.score I h q k * Spec.SC : EReal) := by
    rw [val_main_v66_apply, v64_eq H, val_main_v65_apply]
    rfl
  rw [val_main_v79_apply, e1, e2, e3]
  by_cases h1 : k.val ≤ q.val <;> by_cases h2 : Spec.seqOf I k.val = Spec.seqOf I q.val
  · rw [if_pos ⟨h1, h2⟩, decide_eq_true h1, decide_eq_true h2]; rfl
  · rw [if_neg (fun x => h2 x.2), decide_eq_true h1, decide_eq_false h2]; rfl
  · rw [if_neg (fun x => h1 x.1), decide_eq_false h1, decide_eq_true h2]; rfl
  · rw [if_neg (fun x => h1 x.1), decide_eq_false h1, decide_eq_false h2]; rfl

theorem v80_eq (h : Fin 96) (q : Fin 256) : val_main_v80 (F := Ideal) x1 x3 x4 x5 x6 x7 r0 r1 r2 r3 r4 r5 (ix2 h q) = Spec.row I h q := by
  have e := fun k => v79_eq H h q k
  have ec : val_main_cst_1 (F := Ideal) = fun _ => (⊥ : EReal) := funext fun _ => bot_bits
  unfold val_main_v80 Spec.row
  rw [ec]
  revert e
  generalize val_main_v79 (F := Ideal) x1 x3 x4 x5 x6 x7 r0 r1 r2 r3 r4 r5 = y
  intro e
  refine Eq.trans ?_ (congrArg (fun f : Fin 256 → EReal => Finset.fold max (⊥ : EReal) f Finset.univ) (funext e))
  pointwise

theorem v81_eq (h : Fin 96) : val_main_v81 (F := Ideal) x1 x3 x4 x5 x6 x7 r0 r1 r2 r3 r4 r5 (ix1 h) = Spec.smax I h := by
  have e := fun q => v80_eq H h q
  have ec : val_main_cst_2 (F := Ideal) = fun _ => (⊥ : EReal) := funext fun _ => bot_bits
  unfold val_main_v81 Spec.smax
  rw [ec]
  revert e
  generalize val_main_v80 (F := Ideal) x1 x3 x4 x5 x6 x7 r0 r1 r2 r3 r4 r5 = y
  intro e
  refine Eq.trans ?_ (congrArg (fun f : Fin 256 → EReal => Finset.fold max (⊥ : EReal) f Finset.univ) (funext e))
  pointwise

variable (H14 : x14 (fun a => a.elim0) = I.tau)
include H14

theorem v87_eq (h : Fin 96) : val_main_v87 (F := Ideal) x1 x3 x4 x5 x6 x7 x14 r0 r1 r2 r3 r4 r5 (ix1 h) = Spec.gam I h := by
  have e84 : val_main_v84 (F := Ideal) x14 (ix1 h) = I.tau := by
    rw [val_main_v84_apply]
    exact H14
  have e82 : val_main_v82 (F := Ideal) (ix1 h) = Ideal.ofBits .f32 897988541#32 := by
    rw [val_main_v82_apply]
    rfl
  have e86 : val_main_v86 (F := Ideal) (ix1 h) = (1 : EReal) := by
    rw [val_main_v86_apply]
    exact one_bits
  rw [val_main_v87_apply, val_main_v85_apply, val_main_v83_apply, v81_eq H, e84, e82, e86]
  rfl

theorem v88_eq (h : Fin 96) : val_main_v88 (F := Ideal) x1 x3 x4 x5 x6 x7 x14 r0 r1 r2 r3 r4 r5 (ix1 h) = Ideal.sqrt (Spec.gam I h) := by
  rw [val_main_v88_apply, v87_eq H H14]
  rfl

theorem v95_eq (h : Fin 96) (d : Fin 192) : val_main_v95 (F := Ideal) x1 x3 x4 x5 x6 x7 x14 r0 r1 r2 r3 r4 r5 (ix2 h d)
    = (if d.val < 128 then Ideal.sqrt (Spec.gam I h) else Spec.gam I h : EReal) := by
  have e0 : val_main_call1_v0 (F := Ideal) (ix2 h d) = BitVec.ofBool (decide (d.val < 128)) := by
    rw [val_main_call1_v0_apply, val_main_v92_apply, val_main_v91_apply, val_main_v89_apply, val_main_v90_apply, val_main_c_5_apply, ← slt_ofNat]
    rfl
  have e1 : val_main_call1_v1 (F := Ideal) x1 x3 x4 x5 x6 x7 x14 r0 r1 r2 r3 r4 r5 (ix2 h d) = Ideal.sqrt (Spec.gam I h) := by
    rw [val_main_call1_v1_apply, val_main_v93_apply]
    exact (congrArg _ (ix1_of _ h rfl)).trans (v88_eq H H14 h)
  have e2 : val_main_call1_v2 (F := Ideal) x1 x3 x4 x5 x6 x7 x14 r0 r1 r2 r3 r4 r5 (ix2 h d) = Spec.gam I h := by
    rw [val_main_call1_v2_apply, val_main_v94_apply]
    exact (congrArg _ (ix1_of _ h rfl)).trans (v87_eq H H14 h)
  rw [val_main_v95_apply, e0, e1, e2]
  by_cases hd : d.val < 128
  · rw [if_pos hd, decide_eq_true hd]; rfl
  · rw [if_neg hd, decide_eq_false hd]; rfl

theorem v103_eq (H8 : ∀ o k, x8 (ix2 o k) = I.wq o k) (o : Fin 18432) (k : Fin 1536) :
    val_main_v103 (F := Ideal) x1 x3 x4 x5 x6 x7 x8 x14 r0 r1 r2 r3 r4 r5 (ix2 o k) = Spec.wqn I o k := by
  have ho : o.val < 18432 := o.isLt
  have e1 : val_main_v101 (F := Ideal) x1 x3 x4 x5 x6 x7 x14 r0 r1 r2 r3 r4 r5 (ix2 o k)
      = (if o.val % 192 < 128 then Ideal.sqrt (Spec.gam I ⟨o.val / 192, by omega⟩) else Spec.gam I ⟨o.val / 192, by omega⟩ : EReal) := by
    rw [val_main_v101_apply, val_main_v96_apply]
    refine (congrArg _ (ix2_of _ ⟨o.val / 192, by omega⟩ ⟨o.val % 192, by omega⟩ ?_ ?_)).trans (v95_eq H H14 _ _)
    · show (o.val * 1 + 0) / 192 = o.val / 192
      omega
    · show (o.val * 1 + 0) % 192 = o.val % 192
      omega
  rw [val_main_v103_apply, val_main_v102_apply, val_main_v100_apply, e1, H8]
  rfl

theorem v107_eq (H9 : ∀ o k, x9 (ix2 o k) = I.wk o k) (o : Fin 12288) (k : Fin 512) :
    val_main_v107 (F := Ideal) x1 x3 x4 x5 x6 x7 x9 x14 r0 r1 r2 r3 r4 r5 (ix2 o k) = Spec.wkn I o k := by
  have ho : o.val < 12288 := o.isLt
  have e1 : val_main_v105 (F := Ideal) x1 x3 x4 x5 x6 x7 x14 r0 r1 r2 r3 r4 r5 (ix2 o k) = Ideal.sqrt (Spec.gam I ⟨o.val / 128, by omega⟩) := by
    rw [val_main_v105_apply, val_main_v99_apply, val_main_v98_apply, val_main_v97_apply]
    exact (congrArg _ (ix1_of _ ⟨o.val / 128, by omega⟩ rfl)).trans (v88_eq H H14 _)
  rw [val_main_v107_apply, val_main_v106_apply, val_main_v104_apply, e1, H9]
  rfl

omit H14 in
theorem v109_eq (j : S1x128.Idx) : val_main_v109 (F := Ideal) x1 x3 x4 x5 x6 x7 r0 r1 r2 r3 r4 r5 j
    = (if h : (j 1).val < 96 then Spec.smax I ⟨(j 1).val, h⟩ else 0 : EReal) := by
  have e := fun h => v81_eq H h
  have ez : val_main_call2_v0 (F := Ideal) = fun _ => (0 : EReal) := funext fun _ => by
    show (((0#32 : BitVec 32).toInt : ℝ) : EReal) = 0
    simp
  rw [val_main_v109_apply]
  unfold val_main_v108
  rw [ez]
  revert e
  generalize val_main_v81 (F := Ideal) x1 x3 x4 x5 x6 x7 r0 r1 r2 r3 r4 r5 = y
  intro e
  generalize hl : idx_main_v109 j = l
  have hlv : (l 0).val = (j 1).val := by rw [← hl]
  by_cases h : (j 1).val < 96
  · rw [dif_pos h, ← e]
    refine pad_apply_of_inside _ _ _ y _ _ _ l (ix1 ⟨(j 1).val, h⟩) fun a => ?_
    match a with
    | ⟨0, _⟩ => show (l 0).val = 0 + (j 1).val * (0 + 1); omega
  · rw [dif_neg h]
    refine pad_apply_of_not_inside _ _ _ y _ _ _ l 0 fun hin => h ?_
    have h2 : ((l 0).val - 0) / (0 + 1) < 96 := hin.2.2
    omega

theorem v111_eq (j : S1x128.Idx) : val_main_v111 (F := Ideal) x1 x3 x4 x5 x6 x7 x14 r0 r1 r2 r3 r4 r5 j
    = (if h : (j 1).val < 96 then Spec.gam I ⟨(j 1).val, h⟩ else 0 : EReal) := by
  have e := fun h => v87_eq H H14 h
  have ez : val_main_call3_v0 (F := Ideal) = fun _ => (0 : EReal) := funext fun _ => by
    show (((0#32 : BitVec 32).toInt : ℝ) : EReal) = 0
    simp
  rw [val_main_v111_apply]
  unfold val_main_v110
  rw [ez]
  revert e
  generalize val_main_v87 (F := Ideal) x1 x3 x4 x5 x6 x7 x14 r0 r1 r2 r3 r4 r5 = y
  intro e
  generalize hl : idx_main_v111 j = l
  have hlv : (l 0).val = (j 1).val := by rw [← hl]
  by_cases h : (j 1).val < 96
  · rw [dif_pos h, ← e]
    refine pad_apply_of_inside _ _ _ y _ _ _ l (ix1 ⟨(j 1).val, h⟩) fun a => ?_
    match a with
    | ⟨0, _⟩ => show (l 0).val = 0 + (j 1).val * (0 + 1); omega
  · rw [dif_neg h]
    refine pad_apply_of_not_inside _ _ _ y _ _ _ l 0 fun hin => h ?_
    have h2 : ((l 0).val - 0) / (0 + 1) < 96 := hin.2.2
    omega

end Cert.ReferenceIdeal.Read

end
-- ==== Proof.RefRegions.lean ====
/- The decoded arrays of the reference, element by element. -/
module

public import proofs.«01_k».proof.Proof.Gen.ReferenceIdeal.Read
public import proofs.«01_k».proof.Proof.Spec
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

theorem hz : (![0, 0] : Fin 2 → Nat) = fun _ => 0 := funext fun a => by fin_cases a <;> rfl

theorem out6 (x0 : Vec Ideal S256x1536 .fp8e4m3) (x1 : Vec Ideal S256x512 .fp8e4m3) (x2 : Vec Ideal S18432x1536 .fp8e4m3) (x3 : Vec Ideal S18432x48 .i8) (x4 : Vec Ideal S12288x512 .fp8e4m3) (x5 : Vec Ideal S12288x16 .i8) :
    out0_6 x0 x1 x2 x3 x4 x5 = k0_pay1 x0 := by unfold out0_6; rw [View.canon_unit_zero hz, View.ld_unit_zero hz]
theorem out7 (x0 : Vec Ideal S256x1536 .fp8e4m3) (x1 : Vec Ideal S256x512 .fp8e4m3) (x2 : Vec Ideal S18432x1536 .fp8e4m3) (x3 : Vec Ideal S18432x48 .i8) (x4 : Vec Ideal S12288x512 .fp8e4m3) (x5 : Vec Ideal S12288x16 .i8) :
    out0_7 x0 x1 x2 x3 x4 x5 = k0_pay2 x1 := by unfold out0_7; rw [View.canon_unit_zero hz, View.ld_unit_zero hz]
theorem out8 (x0 : Vec Ideal S256x1536 .fp8e4m3) (x1 : Vec Ideal S256x512 .fp8e4m3) (x2 : Vec Ideal S18432x1536 .fp8e4m3) (x3 : Vec Ideal S18432x48 .i8) (x4 : Vec Ideal S12288x512 .fp8e4m3) (x5 : Vec Ideal S12288x16 .i8) :
    out0_8 x0 x1 x2 x3 x4 x5 = k0_pay3 x2 := by unfold out0_8; rw [View.canon_unit_zero hz, View.ld_unit_zero hz]
theorem out9 (x0 : Vec Ideal S256x1536 .fp8e4m3) (x1 : Vec Ideal S256x512 .fp8e4m3) (x2 : Vec Ideal S18432x1536 .fp8e4m3) (x3 : Vec Ideal S18432x48 .i8) (x4 : Vec Ideal S12288x512 .fp8e4m3) (x5 : Vec Ideal S12288x16 .i8) :
    out0_9 x0 x1 x2 x3 x4 x5 = k0_pay5 x3 := by unfold out0_9; rw [View.canon_unit_zero hz, View.ld_unit_zero hz]
theorem out10 (x0 : Vec Ideal S256x1536 .fp8e4m3) (x1 : Vec Ideal S256x512 .fp8e4m3) (x2 : Vec Ideal S18432x1536 .fp8e4m3) (x3 : Vec Ideal S18432x48 .i8) (x4 : Vec Ideal S12288x512 .fp8e4m3) (x5 : Vec Ideal S12288x16 .i8) :
    out0_10 x0 x1 x2 x3 x4 x5 = k0_pay4 x4 := by unfold out0_10; rw [View.canon_unit_zero hz, View.ld_unit_zero hz]
theorem out11 (x0 : Vec Ideal S256x1536 .fp8e4m3) (x1 : Vec Ideal S256x512 .fp8e4m3) (x2 : Vec Ideal S18432x1536 .fp8e4m3) (x3 : Vec Ideal S18432x48 .i8) (x4 : Vec Ideal S12288x512 .fp8e4m3) (x5 : Vec Ideal S12288x16 .i8) :
    out0_11 x0 x1 x2 x3 x4 x5 = k0_pay6 x5 := by unfold out0_11; rw [View.canon_unit_zero hz, View.ld_unit_zero hz]

variable (m : (ℓ : Loc nD τ sig) → Buf (Elt Ideal) ℓ) (c : Dev nD)

/-- The arguments as plain functions. -/
def inR : Spec.In where
  cq t k := m ((c.tc : Thread nD τ).loc main_arg0) (ix2 t k)
  cqs t k := m ((c.tc : Thread nD τ).loc main_arg1) (ix2 t k)
  ck t k := m ((c.tc : Thread nD τ).loc main_arg2) (ix2 t k)
  cks t k := m ((c.tc : Thread nD τ).loc main_arg3) (ix2 t k)
  kr t k := m ((c.tc : Thread nD τ).loc main_arg4) (ix2 t k)
  cu k := m ((c.tc : Thread nD τ).loc main_arg5) (ix1 k)
  cs t k := m ((c.tc : Thread nD τ).loc main_arg6) (ix2 t k)
  sn t k := m ((c.tc : Thread nD τ).loc main_arg7) (ix2 t k)
  wq t k := m ((c.tc : Thread nD τ).loc main_arg8) (ix2 t k)
  wk t k := m ((c.tc : Thread nD τ).loc main_arg9) (ix2 t k)
  qc t k := m ((c.tc : Thread nD τ).loc main_arg10) (ix2 t k)
  qe t k := m ((c.tc : Thread nD τ).loc main_arg11) (ix2 t k)
  kc t k := m ((c.tc : Thread nD τ).loc main_arg12) (ix2 t k)
  ke t k := m ((c.tc : Thread nD τ).loc main_arg13) (ix2 t k)
  tau := m ((c.tc : Thread nD τ).loc main_arg14) (fun a => a.elim0)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

variable (t : Fin cfg0.N)
theorem b0 (a : Fin 256) (k : Fin 1536) : iblk m c 0 t (ix2 a k) = (inR m c).cq a k := by unfold inR; blk_ext [iblk, V, idx0 t]
theorem b1 (a : Fin 256) (k : Fin 512) : iblk m c 1 t (ix2 a k) = (inR m c).ck a k := by unfold inR; blk_ext [iblk, V, idx0 t]
theorem b2 (a : Fin 18432) (k : Fin 1536) : iblk m c 2 t (ix2 a k) = (inR m c).qc a k := by unfold inR; blk_ext [iblk, V, idx0 t]
theorem b3 (a : Fin 18432) (k : Fin 48) : iblk m c 3 t (ix2 a k) = (inR m c).qe a k := by unfold inR; blk_ext [iblk, V, idx0 t]
theorem b4 (a : Fin 12288) (k : Fin 512) : iblk m c 4 t (ix2 a k) = (inR m c).kc a k := by unfold inR; blk_ext [iblk, V, idx0 t]
theorem b5 (a : Fin 12288) (k : Fin 16) : iblk m c 5 t (ix2 a k) = (inR m c).ke a k := by unfold inR; blk_ext [iblk, V, idx0 t]

theorem sc5 (x : Vec Ideal S18432x48 .i8) (a : Fin 18432) (k : Fin 48) : k0_pay5 x (ix2 a k) = Spec.sc (x (ix2 a k)) := rfl
theorem ex3 (x : Vec Ideal S18432x1536 .fp8e4m3) (j : S18432x1536.Idx) : k0_pay3 x j = x j := rfl
theorem ex4 (x : Vec Ideal S12288x512 .fp8e4m3) (j : S12288x512.Idx) : k0_pay4 x j = x j := rfl
theorem sc6 (x : Vec Ideal S12288x16 .i8) (a : Fin 12288) (k : Fin 16) : k0_pay6 x (ix2 a k) = Spec.sc (x (ix2 a k)) := rfl

/-- What the decoding leaves. -/
def R0 : Vec Ideal S256x1536 .bf16 := fun j => (inR m c).cq (j 0) (j 1)
def R1 : Vec Ideal S256x512 .bf16 := fun j => (inR m c).ck (j 0) (j 1)
def R2 : Vec Ideal S18432x1536 .bf16 := fun j => (inR m c).qc (j 0) (j 1)
def R3 : Vec Ideal S18432x48 .f32 := fun j => Spec.sc ((inR m c).qe (j 0) (j 1))
def R4 : Vec Ideal S12288x512 .bf16 := fun j => (inR m c).kc (j 0) (j 1)
def R5 : Vec Ideal S12288x16 .f32 := fun j => Spec.sc ((inR m c).ke (j 0) (j 1))

theorem p0 (a : Fin 256) (k : Fin 1536) : k0_pay1 (F := Ideal) (iblk m c 0 t) (ix2 a k) = R0 m c (ix2 a k) := b0 m c t a k
theorem e0 (a : Fin 256) (k : Fin 1536) : (win0_6.blk t).view.emb (ix2 a k) = ix2 a k := by blk_ext [idx0 t]
theorem p1 (a : Fin 256) (k : Fin 512) : k0_pay2 (F := Ideal) (iblk m c 1 t) (ix2 a k) = R1 m c (ix2 a k) := b1 m c t a k
theorem e1 (a : Fin 256) (k : Fin 512) : (win0_7.blk t).view.emb (ix2 a k) = ix2 a k := by blk_ext [idx0 t]
theorem p2 (a : Fin 18432) (k : Fin 1536) : k0_pay3 (F := Ideal) (iblk m c 2 t) (ix2 a k) = R2 m c (ix2 a k) := (ex3 _ _).trans (b2 m c t a k)
theorem e2 (a : Fin 18432) (k : Fin 1536) : (win0_8.blk t).view.emb (ix2 a k) = ix2 a k := by blk_ext [idx0 t]
theorem p3 (a : Fin 18432) (k : Fin 48) : k0_pay5 (F := Ideal) (iblk m c 3 t) (ix2 a k) = R3 m c (ix2 a k) := (sc5 _ a k).trans (congrArg Spec.sc (b3 m c t a k))
theorem e3 (a : Fin 18432) (k : Fin 48) : (win0_9.blk t).view.emb (ix2 a k) = ix2 a k := by blk_ext [idx0 t]
theorem p4 (a : Fin 12288) (k : Fin 512) : k0_pay4 (F := Ideal) (iblk m c 4 t) (ix2 a k) = R4 m c (ix2 a k) := (ex4 _ _).trans (b4 m c t a k)
theorem e4 (a : Fin 12288) (k : Fin 512) : (win0_10.blk t).view.emb (ix2 a k) = ix2 a k := by blk_ext [idx0 t]
theorem p5 (a : Fin 12288) (k : Fin 16) : k0_pay6 (F := Ideal) (iblk m c 5 t) (ix2 a k) = R5 m c (ix2 a k) := (sc6 _ a k).trans (congrArg Spec.sc (b5 m c t a k))
theorem e5 (a : Fin 12288) (k : Fin 16) : (win0_11.blk t).view.emb (ix2 a k) = ix2 a k := by blk_ext [idx0 t]

end Cert.ReferenceIdeal.Value

end
-- ==== Proof.RefRegsA.lean ====
/- The decoded arrays of the reference: codes. -/
module

public import proofs.«01_k».proof.Proof.RefRegions

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

theorem reg0 : reg_main_v0_0 m c = R0 m c := by
  refine (dats m 0 c).arrAt_eq_of_covers 6 (R0 m c) (by decide +kernel) fun t hf y => ?_
  obtain ⟨a, k, rfl⟩ : ∃ (a : Fin 256) (k : Fin 1536), y = ix2 a k := ⟨y 0, y 1, by pointwise⟩
  blk_simp
  rw [after0_6, out6]
  exact (p0 m c t a k).trans (congrArg (R0 m c) (e0 t a k).symm)
theorem reg1 : reg_main_v0_1 m c = R1 m c := by
  refine (dats m 0 c).arrAt_eq_of_covers 7 (R1 m c) (by decide +kernel) fun t hf y => ?_
  obtain ⟨a, k, rfl⟩ : ∃ (a : Fin 256) (k : Fin 512), y = ix2 a k := ⟨y 0, y 1, by pointwise⟩
  blk_simp
  rw [after0_7, out7]
  exact (p1 m c t a k).trans (congrArg (R1 m c) (e1 t a k).symm)
theorem reg2 : reg_main_v0_2 m c = R2 m c := by
  refine (dats m 0 c).arrAt_eq_of_covers 8 (R2 m c) (by decide +kernel) fun t hf y => ?_
  obtain ⟨a, k, rfl⟩ : ∃ (a : Fin 18432) (k : Fin 1536), y = ix2 a k := ⟨y 0, y 1, by pointwise⟩
  blk_simp
  rw [after0_8, out8]
  exact (p2 m c t a k).trans (congrArg (R2 m c) (e2 t a k).symm)
theorem reg4 : reg_main_v0_4 m c = R4 m c := by
  refine (dats m 0 c).arrAt_eq_of_covers 10 (R4 m c) (by decide +kernel) fun t hf y => ?_
  obtain ⟨a, k, rfl⟩ : ∃ (a : Fin 12288) (k : Fin 512), y = ix2 a k := ⟨y 0, y 1, by pointwise⟩
  blk_simp
  rw [after0_10, out10]
  exact (p4 m c t a k).trans (congrArg (R4 m c) (e4 t a k).symm)

end Cert.ReferenceIdeal.Value

end
-- ==== Proof.RefRegsB.lean ====
/- The decoded arrays of the reference: scales. -/
module

public import proofs.«01_k».proof.Proof.RefRegions

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

theorem reg3 : reg_main_v0_3 m c = R3 m c := by
  refine (dats m 0 c).arrAt_eq_of_covers 9 (R3 m c) (by decide +kernel) fun t hf y => ?_
  obtain ⟨a, k, rfl⟩ : ∃ (a : Fin 18432) (k : Fin 48), y = ix2 a k := ⟨y 0, y 1, by pointwise⟩
  blk_simp
  rw [after0_9, out9]
  exact (p3 m c t a k).trans (congrArg (R3 m c) (e3 t a k).symm)
theorem reg5 : reg_main_v0_5 m c = R5 m c := by
  refine (dats m 0 c).arrAt_eq_of_covers 11 (R5 m c) (by decide +kernel) fun t hf y => ?_
  obtain ⟨a, k, rfl⟩ : ∃ (a : Fin 12288) (k : Fin 16), y = ix2 a k := ⟨y 0, y 1, by pointwise⟩
  blk_simp
  rw [after0_11, out11]
  exact (p5 m c t a k).trans (congrArg (R5 m c) (e5 t a k).symm)

end Cert.ReferenceIdeal.Value

end
-- ==== Proof.RefRun.lean ====
/- The reference's results. -/
module

public import proofs.«01_k».proof.Proof.RefRows
public import proofs.«01_k».proof.Proof.RefRegsA
public import proofs.«01_k».proof.Proof.RefRegsB
public import proofs.«01_k».proof.Proof.Gen.ReferenceIdeal.Run
public import proofs.«01_k».proof.Proof.Gen.ReferenceIdeal.Read

@[expose] public section

set_option maxRecDepth 16384

noncomputable section

namespace Cert.ReferenceIdeal.Value

open Cert.ReferenceIdeal Cert.ReferenceIdeal.Gen Cert.ReferenceIdeal.Read
open Idealize.ShloMosaic Idealize.ShloMosaic.TcCoe Idealize.ShloMosaic.Tactic

variable (m : (ℓ : Loc nD τ sig) → Buf (Elt Ideal) ℓ) (c : Dev nD)

/-- After the decoding, the arrays the later operations read hold the arguments. -/
theorem holds : Holds (inR m c) (exitV m c (Proc.devRef .tc main_arg1)) (exitV m c (Proc.devRef .tc main_arg3)) (exitV m c (Proc.devRef .tc main_arg4)) (exitV m c (Proc.devRef .tc main_arg5)) (exitV m c (Proc.devRef .tc main_arg6)) (exitV m c (Proc.devRef .tc main_arg7)) (exitV m c (Proc.devRef .tc main_v0_0)) (exitV m c (Proc.devRef .tc main_v0_1)) (exitV m c (Proc.devRef .tc main_v0_2)) (exitV m c (Proc.devRef .tc main_v0_3)) (exitV m c (Proc.devRef .tc main_v0_4)) (exitV m c (Proc.devRef .tc main_v0_5)) where
  x1 t k := congrFun (exit_main_arg1 m c) (ix2 t k)
  x3 t k := congrFun (exit_main_arg3 m c) (ix2 t k)
  x4 t k := congrFun (exit_main_arg4 m c) (ix2 t k)
  x6 t k := congrFun (exit_main_arg6 m c) (ix2 t k)
  x7 t k := congrFun (exit_main_arg7 m c) (ix2 t k)
  x5 k := congrFun (exit_main_arg5 m c) (ix1 k)
  r0 t k := congrFun ((exit_main_v0_0 m c).trans (reg0 m c)) (ix2 t k)
  r1 t k := congrFun ((exit_main_v0_1 m c).trans (reg1 m c)) (ix2 t k)
  r2 t k := congrFun ((exit_main_v0_2 m c).trans (reg2 m c)) (ix2 t k)
  r3 t k := congrFun ((exit_main_v0_3 m c).trans (reg3 m c)) (ix2 t k)
  r4 t k := congrFun ((exit_main_v0_4 m c).trans (reg4 m c)) (ix2 t k)
  r5 t k := congrFun ((exit_main_v0_5 m c).trans (reg5 m c)) (ix2 t k)

/-- The results as functions of the arguments. -/
def W0 : Vec Ideal S1x128 .f32 := fun j => (if h : (j 1).val < 96 then Spec.smax (inR m c) ⟨(j 1).val, h⟩ else 0 : EReal)
def W1 : Vec Ideal S1x128 .f32 := fun j => (if h : (j 1).val < 96 then Spec.gam (inR m c) ⟨(j 1).val, h⟩ else 0 : EReal)
def W2 : Vec Ideal S96x256 .f32 := fun j => Spec.row (inR m c) (j 0) (j 1)
def W3 : Vec Ideal S18432x1536 .bf16 := fun j => Spec.wqn (inR m c) (j 0) (j 1)
def W4 : Vec Ideal S12288x512 .bf16 := fun j => Spec.wkn (inR m c) (j 0) (j 1)

theorem tau_eq : exitV m c (Proc.devRef .tc main_arg14) (fun a => a.elim0) = (inR m c).tau := congrFun (exit_main_arg14 m c) _
theorem wq_eq (o : Fin 18432) (k : Fin 1536) : exitV m c (Proc.devRef .tc main_arg8) (ix2 o k) = (inR m c).wq o k := congrFun (exit_main_arg8 m c) _
theorem wk_eq (o : Fin 12288) (k : Fin 512) : exitV m c (Proc.devRef .tc main_arg9) (ix2 o k) = (inR m c).wk o k := congrFun (exit_main_arg9 m c) _

theorem at2 {a b : ℕ} (j : Shape.Idx ⟨2, ![a, b]⟩) : j = ix2 (j 0) (j 1) := ix2_of j (j 0) (j 1) rfl rfl

theorem results (ρ : Dev nD → PrngReg) :
    θ_run defs (onTc (τ := τ) (main (F := Ideal))) ⟨m, fun _ => 0, ρ⟩ (fun r => ∀ c : Dev nD,
      r.2.mem ((c.tc : Thread nD τ).loc main_v109) = W0 m c
      ∧ r.2.mem ((c.tc : Thread nD τ).loc main_v111) = W1 m c
      ∧ r.2.mem ((c.tc : Thread nD τ).loc main_v80) = W2 m c
      ∧ r.2.mem ((c.tc : Thread nD τ).loc main_v103) = W3 m c
      ∧ r.2.mem ((c.tc : Thread nD τ).loc main_v107) = W4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
    ((h c).1.trans (val_main_v109_eq (exitV m c))).trans (funext fun j => v109_eq (holds m c) j),
    ((h c).2.1.trans (val_main_v111_eq (exitV m c))).trans (funext fun j => v111_eq (holds m c) (tau_eq m c) j),
    ((h c).2.2.1.trans (val_main_v80_eq (exitV m c))).trans (funext fun j => (congrArg _ (at2 j)).trans (v80_eq (holds m c) (j 0) (j 1))),
    ((h c).2.2.2.1.trans (val_main_v103_eq (exitV m c))).trans (funext fun j => (congrArg _ (at2 j)).trans (v103_eq (holds m c) (tau_eq m c) (wq_eq m c) (j 0) (j 1))),
    ((h c).2.2.2.2.1.trans (val_main_v107_eq (exitV m c))).trans (funext fun j => (congrArg _ (at2 j)).trans (v107_eq (holds m c) (tau_eq m c) (wk_eq m c) (j 0) (j 1))),
    (h c).2.2.2.2.2⟩) (run m ρ)

end Cert.ReferenceIdeal.Value

end
-- ==== Proof.Same.lean ====
/- Both programs leave the same results. -/
module

public import proofs.«01_k».proof.Defs
public import proofs.«01_k».proof.Proof.KRun
public import proofs.«01_k».proof.Proof.Pre
public import proofs.«01_k».proof.Proof.RefRun

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem same_args (c : Dev Cert.KernelIdeal.nD) (h :
m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.inR m' c = Cert.KernelIdeal.Value.inK m c := by
  obtain ⟨h0, h1, h2, h3, h4, h5, h6, h7, h8, h9, h10, h11, h12, h13, h14⟩ := h
  unfold Cert.ReferenceIdeal.Value.inR Cert.KernelIdeal.Value.inK
  rw [h0, h1, h2, h3, h4, h5, h6, h7, h8, h9, h10, h11, h12, h13, h14]
  rfl

theorem algebraic : Cert.algebraic_KernelIdeal_ReferenceIdeal_pre_normal_exponents (hKernelIdeal := Cert.KernelIdeal.Gen.facts)
    (hReferenceIdeal := Cert.ReferenceIdeal.Gen.facts) (hPre_normal_exponents := Cert.Pre_normal_exponents.Gen.facts) := by
  intro m g m' g' hp ha
  refine ⟨Cert.KernelIdeal.Value.G0 m, Cert.KernelIdeal.Value.G1 m, Cert.KernelIdeal.Value.G2 m, Cert.KernelIdeal.Value.G3 m, Cert.KernelIdeal.Value.G4 m, ?_, ?_⟩
  · refine (θ_run _ _ _).mono (fun r h c => ?_) (θ_run_and (Cert.KernelIdeal.Value.results m g fun c => Cert.KernelIdeal.Value.normal_of m c hp) (Cert.KernelIdeal.Value.unchanged m g))
    obtain ⟨h1, h2⟩ := h
    obtain ⟨a0, a1, a2, a3, a4⟩ := h1 c
    exact ⟨a0, a1, a2, a3, a4, h2 c⟩
  · refine (θ_run _ _ _).mono (fun r h c => ?_) (Cert.ReferenceIdeal.Value.results m' g')
    have e := same_args m m' c (ha c)
    obtain ⟨a0, a1, a2, a3, a4, hr⟩ := h c
    refine ⟨a0.trans ?_, a1.trans ?_, a2.trans ?_, a3.trans ?_, a4.trans ?_, hr⟩
    · unfold Cert.ReferenceIdeal.Value.W0 Cert.KernelIdeal.Value.G0; rw [e]
    · unfold Cert.ReferenceIdeal.Value.W1 Cert.KernelIdeal.Value.G1; rw [e]
    · unfold Cert.ReferenceIdeal.Value.W2 Cert.KernelIdeal.Value.G2; rw [e]
    · unfold Cert.ReferenceIdeal.Value.W3 Cert.KernelIdeal.Value.G3; rw [e]
    · unfold Cert.ReferenceIdeal.Value.W4 Cert.KernelIdeal.Value.G4; rw [e]

end Cert.Proof

end
-- ==== Proof.lean ====
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_normal_exponents
public import proofs.«01_k».proof.Proof.Gen.ReferenceIdeal.Frame
public import proofs.«01_k».proof.Proof.KFrame.Frame
public import proofs.«01_k».proof.Proof.Same
@[expose] public section
noncomputable section
namespace Cert.Proof
open Idealize.ShloMosaic Idealize.SL.Sem
theorem claim : Cert.Claim :=
  ⟨Cert.Kernel.Gen.facts, Cert.KernelIdeal.Gen.facts, Cert.ReferenceIdeal.Gen.facts, Cert.Pre_normal_exponents.Gen.facts,
    fun m ρ _ => Cert.Kernel.KFrame.frame m ρ, fun m ρ _ => Cert.KernelIdeal.Value.frame m ρ,
    fun m ρ _ => Cert.KernelIdeal.Value.frame m ρ,
    fun m ρ _ => Cert.ReferenceIdeal.Gen.frame m ρ, fun m ρ _ => Cert.ReferenceIdeal.Gen.frame m ρ,
    trivial, algebraic⟩
end Cert.Proof
